-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.UnclippedIdeal.nD).tc : Thread Cert.UnclippedIdeal.nD Cert.UnclippedIdeal.τ).loc Cert.UnclippedIdeal.main_arg1))
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v9) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Layout.block ⟨2, ![4096, 512]⟩ ⟨2, ![4096, 2048]⟩ 1 4 c ((Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 512]⟩ : Shape).Idx → _) i = 1#1 → r.2.mem ((c.tc : Thread Cert.KernelIdeal.nD Cert.KernelIdeal.τ).loc Cert.KernelIdeal.main_v1) i = (Layout.block ⟨2, ![4096, 512]⟩ ⟨2, ![4096, 2048]⟩ 1 4 c v0 : (⟨2, ![4096, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_clip_idle (hKernelIdeal := hKernelIdeal) (hReferenceIdeal := hReferenceIdeal) (hOn_clip_idle := hOn_clip_idle)
-- ==== On_clip_idle.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  main_v9
-- ==== Kernel.lean ====
abbrev S1024x4096 : Shape := ⟨2, ![1024, 4096]⟩
abbrev S4096x512 : Shape := ⟨2, ![4096, 512]⟩
abbrev S1 : Shape := ⟨1, ![1]⟩
abbrev S4x4096x512 : Shape := ⟨3, ![4, 4096, 512]⟩
abbrev S2x512x4096 : Shape := ⟨3, ![2, 512, 4096]⟩
abbrev S2x2048x512 : Shape := ⟨3, ![2, 2048, 512]⟩
abbrev S3x1024x512 : Shape := ⟨3, ![3, 1024, 512]⟩
abbrev S4x512x512 : Shape := ⟨3, ![4, 512, 512]⟩
abbrev S12 : Shape := ⟨1, ![12]⟩
abbrev S4 : Shape := ⟨1, ![4]⟩
abbrev S_ : Shape := ⟨0, ![]⟩
abbrev S1x2048x512 : Shape := ⟨3, ![1, 2048, 512]⟩
abbrev S2048x512 : Shape := ⟨2, ![2048, 512]⟩
abbrev S1x512x4096 : Shape := ⟨3, ![1, 512, 4096]⟩
abbrev S512x4096 : Shape := ⟨2, ![512, 4096]⟩
abbrev S1x4096x512 : Shape := ⟨3, ![1, 4096, 512]⟩
abbrev S512x512 : Shape := ⟨2, ![512, 512]⟩
abbrev S1x512x512 : Shape := ⟨3, ![1, 512, 512]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S4x4096x512, .fp8e4m3⟩
  | .local _ .vmem, ⟨1, _⟩ => ⟨S1024x4096, .fp8e4m3⟩
  | .local _ .vmem, ⟨2, _⟩ => ⟨S2x512x4096, .f32⟩
  | .local _ .vmem, ⟨3, _⟩ => ⟨S2x2048x512, .f32⟩
  | .local _ .vmem, ⟨4, _⟩ => ⟨S3x1024x512, .bf16⟩
  | .local _ .vmem, ⟨5, _⟩ => ⟨S3x1024x512, .bf16⟩
  | .local _ .vmem, ⟨6, _⟩ => ⟨S4x512x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_12 : BitVec 32 := 1#32
  let v16 : BitVec 32 := Scalar.muli v5 c1_i32_12
  let v17 : BitVec 32 := Scalar.addi c0_i32_13 v16
  v17.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v18 : BitVec 32 := Scalar.muli v7 c1_i32_15
  let v19 : BitVec 32 := Scalar.addi c0_i32_16 v18
  v19.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v46 : BitVec 32 := Scalar.muli v7 c1_i32_48
  let v47 : BitVec 32 := Scalar.addi c0_i32_49 v46
  v47.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v56 : BitVec 32 := Scalar.muli v5 c1_i32_58
  let v57 : BitVec 32 := Scalar.addi c0_i32_59 v56
  v57.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_78 : BitVec 32 := 1#32
  let v77 : BitVec 32 := Scalar.muli v7 c1_i32_78
  let v78 : BitVec 32 := Scalar.addi c0_i32_79 v77
  v78.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_88 : BitVec 32 := 1#32
  let v87 : BitVec 32 := Scalar.muli v5 c1_i32_88
  let v88 : BitVec 32 := Scalar.addi c0_i32_89 v87
  v88.toNat
def k0_off1 (d0 : Dev nD) (c0_i32_125 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v133 : BitVec 32 := Scalar.muli v2 c1024_i32
  let v134 : BitVec 32 := Scalar.addi v133 c0_i32_125
  let c0_i32_128 : BitVec 32 := 0#32
  ![v134.toNat, 0]
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_161 : BitVec 32 := 1#32
  let v166 : BitVec 32 := Scalar.muli v7 c1_i32_161
  let v167 : BitVec 32 := Scalar.addi c0_i32_162 v166
  v167.toNat
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_180 : BitVec 32 := 1#32
  let v184 : BitVec 32 := Scalar.muli v5 c1_i32_180
  let v185 : BitVec 32 := Scalar.addi c0_i32_181 v184
  v185.toNat
def k0_dev9 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_217 : BitVec 32 := 1#32
  let v222 : BitVec 32 := Scalar.muli v7 c1_i32_217
  let v223 : BitVec 32 := Scalar.addi c0_i32_218 v222
  v223.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_235 : BitVec 32 := 1#32
  let v244 : BitVec 32 := Scalar.muli v5 c1_i32_235
  let v245 : BitVec 32 := Scalar.addi c0_i32_236 v244
  v245.toNat
def k0_dev11 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_253 : BitVec 32 := 1#32
  let v266 : BitVec 32 := Scalar.muli v7 c1_i32_253
  let v267 : BitVec 32 := Scalar.addi c0_i32_254 v266
  v267.toNat
def k0_dev12 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_271 : BitVec 32 := 1#32
  let v288 : BitVec 32 := Scalar.muli v5 c1_i32_271
  let v289 : BitVec 32 := Scalar.addi c0_i32_272 v288
  v289.toNat
def k0_dev13 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_308 : BitVec 32 := 1#32
  let v326 : BitVec 32 := Scalar.muli v9 c1_i32_308
  let v327 : BitVec 32 := Scalar.addi c0_i32_309 v326
  v327.toNat
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_326 : BitVec 32 := 1#32
  let v348 : BitVec 32 := Scalar.muli v9 c1_i32_326
  let v349 : BitVec 32 := Scalar.addi c0_i32_327 v348
  v349.toNat
def k0_off2 (d0 : Dev nD) (c0_i32_349 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_348 : BitVec 32 := 1024#32
  let v372 : BitVec 32 := Scalar.muli v5 c1024_i32_348
  let v373 : BitVec 32 := Scalar.addi v372 c0_i32_349
  let c0_i32_352 : BitVec 32 := 0#32
  ![v373.toNat, 0]
def k0_off3 (d0 : Dev nD) (c1_i32_3 : BitVec 32) (c0_i32_372 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_371 : BitVec 32 := 1024#32
  let v393 : BitVec 32 := Scalar.muli v7 c1024_i32_371
  let v394 : BitVec 32 := Scalar.addi v393 c0_i32_372
  let c0_i32_375 : BitVec 32 := 0#32
  ![v394.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Protocol.lean ====
/-
  The exchange protocol of the kernel, as data: the neighbours on the ring of four, the buffers and their regions,
  what every buffer holds once written, what each transfer hands over, the order in which a device issues its
  transfers, and the levels that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging pipeline's rounds, the exchange's rounds (duties named by `Bool`), and counters for
    the transfers a device makes within itself -/

abbrev UX : Type := URounds (GSem nD τ sig) Bool
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds: the left half of the right factor. -/
def EX : Emb UX (MT nD τ sig Unit (Elt F) ℕ UU ℕ) :=
  (Emb.inl : Emb UX (UX × Counters)).trans (embR : Emb (UX × Counters) (MT nD τ sig Unit (Elt F) ℕ UU ℕ))
instance EX_landsIn : (EX : Emb UX 𝕄).LandsIn (upEmb : UEmb _ 𝕄) := by unfold EX; infer_instance

abbrev EC : UEmb Counters (MT nD τ sig Unit (Elt F) ℕ UU ℕ) := countersEmb

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def dia (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem dia_dia (c : Dev nD) : dia (dia c) = c := by revert c; decide
theorem dia_prv (c : Dev nD) : dia (prv c) = nxt c := by revert c; decide
theorem dia_nxt (c : Dev nD) : dia (nxt c) = prv c := by revert c; decide

/-! ## Regions: boxes of multi-indices -/

/-- The multi-indices of a rank-`n` shape in the box of extents `size` at `off`. -/
def bx {n : ℕ} {d : Fin n → ℕ} (off size : Fin n → ℕ) : Finset (⟨n, d⟩ : Shape).Idx :=
  Finset.univ.filter fun i => ∀ a, off a ≤ (i a).val ∧ (i a).val < off a + size a

theorem mem_bx {n : ℕ} {d : Fin n → ℕ} {off size : Fin n → ℕ} {i : (⟨n, d⟩ : Shape).Idx} :
    i ∈ bx off size ↔ ∀ a, off a ≤ (i a).val ∧ (i a).val < off a + size a := by simp [bx]

/-- A unit-stride rectangle names its box. -/
theorem unit_set {n : ℕ} {d : Fin n → ℕ} (off size : Fin n → ℕ) (inb) :
    (Rect.unit (s := ⟨n, d⟩) off size inb).set = bx off size := by
  ext i; rw [mem_bx, Rect.mem_set_unit]

theorem mem_bx3 {d : Fin 3 → ℕ} {a b c p q r : ℕ} {i : (⟨3, d⟩ : Shape).Idx} :
    i ∈ bx ![a, b, c] ![p, q, r] ↔ (a ≤ (i 0).val ∧ (i 0).val < a + p) ∧ (b ≤ (i 1).val ∧ (i 1).val < b + q) ∧ (c ≤ (i 2).val ∧ (i 2).val < c + r) := by
  rw [mem_bx]
  exact ⟨fun h => ⟨h 0, h 1, h 2⟩, fun h a => by
    obtain ⟨h0, h1, h2⟩ := h
    match a with
    | ⟨0, _⟩ => exact h0
    | ⟨1, _⟩ => exact h1
    | ⟨2, _⟩ => exact h2⟩

theorem mem_bx2 {d : Fin 2 → ℕ} {off : Fin 2 → ℕ} {p q : ℕ} {i : (⟨2, d⟩ : Shape).Idx} :
    i ∈ bx off ![p, q] ↔ (off 0 ≤ (i 0).val ∧ (i 0).val < off 0 + p) ∧ (off 1 ≤ (i 1).val ∧ (i 1).val < off 1 + q) := by
  rw [mem_bx]
  exact ⟨fun h => ⟨h 0, h 1⟩, fun h a => by
    obtain ⟨h0, h1⟩ := h
    match a with
    | ⟨0, _⟩ => exact h0
    | ⟨1, _⟩ => exact h1⟩

/-! ## Semaphores and their cells -/

abbrev barS : Sem sig := (SemArray.scalar (sig.barrier 0 rfl) : Sems sig S_).sem
set_option backward.proofsInPublic true in
/-- The completion semaphore of transfer slot `s` at its issuer, -/
def sendS (s : Fin 12) : DmaSem sig := ⟨2 + s.val, by have := s.isLt; show 2 + s.val < 34; omega⟩
set_option backward.proofsInPublic true in
/-- at its receiver, -/
def recvS (s : Fin 12) : DmaSem sig := ⟨14 + s.val, by have := s.isLt; show 14 + s.val < 34; omega⟩
set_option backward.proofsInPublic true in
/-- of the loads into the staging slots, -/
def loadS (s : Fin 4) : DmaSem sig := ⟨26 + s.val, by have := s.isLt; show 26 + s.val < 34; omega⟩
set_option backward.proofsInPublic true in
/-- and of the stores out of the output slots. -/
def outS (s : Fin 4) : DmaSem sig := ⟨30 + s.val, by have := s.isLt; show 30 + s.val < 34; omega⟩

/-- Element `j` of an array of consecutive semaphores. -/
theorem sem_consecutive {n k base j : ℕ} (h : base + (⟨1, ![k]⟩ : Shape).numel ≤ n) (hj : base + j < n) (inb) (sq) :
    (((SemArray.consecutive base (⟨1, ![k]⟩ : Shape) h).slice (Rect.unit (s := ⟨1, ![k]⟩) ![j] S1.size inb)).squeeze S_ sq).sem = ⟨base + j, hj⟩ := by
  apply Fin.ext
  show base + ((⟨1, ![k]⟩ : Shape).rowMajor ((Rect.unit (s := ⟨1, ![k]⟩) ![j] S1.size inb).emb (Shape.reshapeEquiv sq.numel_eq _))).val = base + j
  rw [Shape.rowMajor_val_one]
  have h1 : ∀ x : S1.Idx, (x 0).val = 0 := fun x => by have : (x 0).val < 1 := (x 0).isLt; omega
  show base + (j + 1 * ((Shape.reshapeEquiv sq.numel_eq _ : S1.Idx) 0).val) = base + j
  rw [h1]; omega

theorem sem_send {j : ℕ} (h : j < 12) (inb) (sq) :
    (((cc0_scratch7 : DmaSems sig S12).slice (Rect.unit (s := S12) ![j] S1.size inb)).squeeze S_ sq).sem = sendS ⟨j, h⟩ := by
  exact sem_consecutive _ _ _ _
theorem sem_recv {j : ℕ} (h : j < 12) (inb) (sq) :
    (((cc0_scratch8 : DmaSems sig S12).slice (Rect.unit (s := S12) ![j] S1.size inb)).squeeze S_ sq).sem = recvS ⟨j, h⟩ := by
  exact sem_consecutive _ _ _ _
theorem sem_load {j : ℕ} (h : j < 4) (inb) (sq) :
    (((cc0_scratch9 : DmaSems sig S4).slice (Rect.unit (s := S4) ![j] S1.size inb)).squeeze S_ sq).sem = loadS ⟨j, h⟩ := by
  exact sem_consecutive _ _ _ _
theorem sem_out {j : ℕ} (h : j < 4) (inb) (sq) :
    (((cc0_scratch10 : DmaSems sig S4).slice (Rect.unit (s := S4) ![j] S1.size inb)).squeeze S_ sq).sem = outS ⟨j, h⟩ := by
  exact sem_consecutive _ _ _ _

abbrev barCell (c : Dev nD) : GSem nD τ sig := ((c : Thread nD τ), .reg barS)
abbrev sendCell (c : Dev nD) (s : Fin 12) : GSem nD τ sig := ((c : Thread nD τ), .dma (sendS s))
abbrev recvCell (c : Dev nD) (s : Fin 12) : GSem nD τ sig := ((c : Thread nD τ), .dma (recvS s))

/-- Credits of a transfer of half a weight slab and of half a result block. -/
def NW : ℕ := (cc0_scratch0 : Ref sig .tc).dmaCredit S2048x512 .fp8e4m3
def NR : ℕ := (cc0_scratch5 : Ref sig .tc).dmaCredit S512x512 .bf16
def NN (s : Fin 12) : ℕ := if s.val < 6 then NW else NR

theorem NW_pos : 0 < NW := View.dmaCredit_pos ((View.whole cc0_scratch0).slice (Rect.unit (s := S4x4096x512) ![0, 0, 0] S1x2048x512.size inb_S4x4096x512_S1x2048x512_0_0_0) |>.reshape S2048x512 (by decide)) (by decide)

theorem NR_pos : 0 < NR := View.dmaCredit_pos ((View.whole cc0_scratch5).slice (Rect.unit (s := S3x1024x512) ![0, 0, 0] S1x512x512.size inb_S3x1024x512_S1x512x512_0_0_0) |>.reshape S512x512 (by decide)) (by decide)
theorem NN_pos (s : Fin 12) : 0 < NN s := by unfold NN; split; exacts [NW_pos, NR_pos]

/-! ## Contents -/

variable (m : (ℓ : Loc nD τ sig) → Buf (Elt F) ℓ)

/-- A device's two argument blocks and the two scales. -/
def xA (c : Dev nD) : S1024x4096.Idx → Elt F .f32 := m ((c : Thread nD τ).loc main_arg0)
def wA (c : Dev nD) : S4096x512.Idx → Elt F .f32 := m ((c : Thread nD τ).loc main_arg1)
def sxA (c : Dev nD) : S1.Idx → Elt F .f32 := m ((c : Thread nD τ).loc main_arg2)
def swA (c : Dev nD) : S1.Idx → Elt F .f32 := m ((c : Thread nD τ).loc main_arg3)

set_option backward.proofsInPublic true in
abbrev ix1 : S1.Idx := fun a => match a with | ⟨0, _⟩ => ⟨0, Nat.one_pos⟩

/-- The product of the scales. -/
def scl (c : Dev nD) : F .f32 := k0_pay6 (sxA m c ix1) (swA m c ix1)

/-- The narrowed argument blocks. -/
def x8 (c : Dev nD) : S1024x4096.Idx → Elt F .fp8e4m3 := truncf (s := S1024x4096) .fp8e4m3 (xA m c) bitsLt_fp8e4m3_f32
def w8 (c : Dev nD) : S4096x512.Idx → Elt F .fp8e4m3 := truncf (s := S4096x512) .fp8e4m3 (wA m c) bitsLt_fp8e4m3_f32

/-- Whose weights lie in slab `s` of device `c`'s gather buffer. -/
def slabOf (s : ℕ) (c : Dev nD) : Dev nD := match s with
  | 0 => c | 1 => prv c | 2 => nxt c | _ => dia c

/-- The gather buffer once full. -/
def wgF (c : Dev nD) : S4x4096x512.Idx → Elt F .fp8e4m3 := fun i => w8 m (slabOf (i 0).val c) (fun a => i a.succ)

/-- The multi-index of two coordinates. -/
def i2 {d : Fin 2 → ℕ} (r : Fin (d 0)) (k : Fin (d 1)) : (⟨2, d⟩ : Shape).Idx := fun a => match a with
  | ⟨0, _⟩ => r | ⟨1, _⟩ => k

set_option backward.proofsInPublic true in
/-- Row `r + j` of an array, over rows `j` of a block. -/
abbrev row {n k : ℕ} (r j : ℕ) (h : r + j < n) (a : Fin k) : (⟨2, ![n, k]⟩ : Shape).Idx := i2 (d := ![n, k]) ⟨r + j, h⟩ a

set_option backward.proofsInPublic true in
/-- Half `h` of a device's narrowed rows. -/
def xH (c : Dev nD) (h : Fin 2) : S512x4096.Idx → Elt F .fp8e4m3 := fun j =>
  x8 m c (i2 (d := ![1024, 4096]) ⟨512 * h.val + (j 0).val, by have := h.isLt; have h0 : (j 0).val < 512 := (j 0).isLt; show _ < 1024; omega⟩ (j 1))

/-- The result block of rows `x` against columns `w` at scale `s`: product, scale, `y * logistic y`. -/
def blk (s : F .f32) (x : FVec F S512x4096 .fp8e4m3) (w : FVec F S4096x512 .fp8e4m3) : FVec F S512x512 .f32 :=
  let y : FVec F S512x512 .f32 := mulf (matmul dot_S512x4096_S4096x512_S512x512_1_0_0_1_n_n none x w (constant S512x512 .f32 0x00000000#32)) (broadcast S512x512 s)
  mulf y (logistic y)

/-- Half `h` of device `c`'s rows against device `d`'s columns, -/
def yB (c d : Dev nD) (h : Fin 2) : FVec F S512x512 .f32 := blk (scl m c) (xH m c h) (w8 m d)
/-- and narrowed for the wire. -/
def yN (c d : Dev nD) (h : Fin 2) : FVec F S512x512 .bf16 := truncf .bf16 (yB m c d h) bitsLt_bf16_f32

/-- The target and the source of result slot `t`. -/
def resTo (t : ℕ) (c : Dev nD) : Dev nD := match t with | 0 => nxt c | 1 => prv c | _ => dia c
def resFrom (t : ℕ) (c : Dev nD) : Dev nD := match t with | 0 => prv c | 1 => nxt c | _ => dia c
theorem resTo_from (t : ℕ) (c : Dev nD) : resTo t (resFrom t c) = c := by
  unfold resTo resFrom; split <;> simp only [nxt_prv, prv_nxt, dia_dia]

set_option backward.proofsInPublic true in
/-- The send buffer of results, -/
def rsF (c : Dev nD) : S3x1024x512.Idx → Elt F .bf16 := fun i =>
  yN m c (resTo (i 0).val c) ⟨(i 1).val / 512, by have h : (i 1).val < 1024 := (i 1).isLt; omega⟩
    (i2 (d := ![512, 512]) ⟨(i 1).val % 512, Nat.mod_lt _ (by decide)⟩ (i 2))
/-- and the receive buffer. -/
def rrF (c : Dev nD) : S3x1024x512.Idx → Elt F .bf16 := fun i => rsF m (resFrom (i 0).val c) i

set_option backward.proofsInPublic true in
/-- THE RESULT: device `c`'s columns, all four devices' rows. -/
def outF (c : Dev nD) : S4096x512.Idx → Elt F .f32 := fun i =>
  let d : Dev nD := ⟨(i 0).val / 1024, by have h : (i 0).val < 4096 := (i 0).isLt; show _ < 4; omega⟩
  let h : Fin 2 := ⟨(i 0).val % 1024 / 512, by omega⟩
  let j : S512x512.Idx := i2 (d := ![512, 512]) ⟨(i 0).val % 512, Nat.mod_lt _ (by decide)⟩ (i 1)
  if d = c then yB m c c h j else extf (s := S512x512) .f32 (yN m d c h) bitsLt_bf16_f32 j

set_option backward.proofsInPublic true in
/-- An output slot holding half `h` of device `d`'s rows of the result. -/
def osF (c d : Dev nD) (h : Fin 2) : S4x512x512.Idx → Elt F .f32 := fun i =>
  outF m c (i2 (d := ![4096, 512]) ⟨1024 * d.val + 512 * h.val + (i 1).val, by
    have := h.isLt; have h1 : (i 1).val < 512 := (i 1).isLt; have hd : d.val < 4 := d.isLt; show _ < 4096; omega⟩ (i 2))

set_option backward.proofsInPublic true in
/-- The staging slots of the rows -/
def xsF (c : Dev nD) : S2x512x4096.Idx → Elt F .f32 := fun i =>
  xA m c (i2 (d := ![1024, 4096]) ⟨512 * (i 0).val + (i 1).val, by
    have h0 : (i 0).val < 2 := (i 0).isLt; have h1 : (i 1).val < 512 := (i 1).isLt; show _ < 1024; omega⟩ (i 2))
set_option backward.proofsInPublic true in
/-- and of the weights. -/
def wsF (c : Dev nD) : S2x2048x512.Idx → Elt F .f32 := fun i =>
  wA m c (i2 (d := ![4096, 512]) ⟨2048 * (i 0).val + (i 1).val, by
    have h0 : (i 0).val < 2 := (i 0).isLt; have h1 : (i 1).val < 2048 := (i 1).isLt; show _ < 4096; omega⟩ (i 2))

/-! ## Pieces of buffers -/

abbrev wgL (c : Dev nD) : Loc nD τ sig := (c : Thread nD τ).loc cc0_scratch0
abbrev x8L (c : Dev nD) : Loc nD τ sig := (c : Thread nD τ).loc cc0_scratch1
abbrev xsL (c : Dev nD) : Loc nD τ sig := (c : Thread nD τ).loc cc0_scratch2
abbrev wsL (c : Dev nD) : Loc nD τ sig := (c : Thread nD τ).loc cc0_scratch3
abbrev rsL (c : Dev nD) : Loc nD τ sig := (c : Thread nD τ).loc cc0_scratch4
abbrev rrL (c : Dev nD) : Loc nD τ sig := (c : Thread nD τ).loc cc0_scratch5
abbrev osL (c : Dev nD) : Loc nD τ sig := (c : Thread nD τ).loc cc0_scratch6
abbrev oL (c : Dev nD) : Loc nD τ sig := (c : Thread nD τ).loc main_v1

/-- The kept share of a weight slab and the two lent out of its own. -/
abbrev qK : PosShare TreeShare := fullShare.left
abbrev qT : PosShare TreeShare := fullShare.right
abbrev qL : PosShare TreeShare := fullShare.right.left
abbrev qR : PosShare TreeShare := fullShare.right.right

abbrev wgB (s r : ℕ) : Finset S4x4096x512.Idx := bx ![s, r, 0] S1x2048x512.size
abbrev rB (t r : ℕ) : Finset S3x1024x512.Idx := bx ![t, r, 0] S1x512x512.size

/-- Half a slab of the gather buffer, written: from row `r` at share `q`; -/
def wgP (c : Dev nD) (s r : ℕ) (q : PosShare TreeShare) : sProp 𝕄 := wgL c ↦[wgB s r]{q} wgF m c
/-- and at any contents. -/
def wgE (c : Dev nD) (s r : ℕ) : sProp 𝕄 := iprop(∃ f : Buf (Elt F) (wgL c), wgL c ↦[wgB s r]{fullShare} f)
def rsP (c : Dev nD) (t r : ℕ) : sProp 𝕄 := rsL c ↦[rB t r]{fullShare} rsF m c
def rsE (c : Dev nD) (t r : ℕ) : sProp 𝕄 := iprop(∃ f : Buf (Elt F) (rsL c), rsL c ↦[rB t r]{fullShare} f)
def rrP (c : Dev nD) (t r : ℕ) : sProp 𝕄 := rrL c ↦[rB t r]{fullShare} rrF m c
def rrE (c : Dev nD) (t r : ℕ) : sProp 𝕄 := iprop(∃ f : Buf (Elt F) (rrL c), rrL c ↦[rB t r]{fullShare} f)

/-! ## What is handed over -/

/-- By the entry signals: device `d` lends the places its neighbours write — to the device before it (which writes
    slabs 1 and 3 and result slot 0, and passes result slot 2 on to the device opposite), -/
def toPrv (d : Dev nD) : sProp 𝕄 := iprop(wgE d 1 0 ∗ wgE d 1 2048 ∗ wgE d 3 0 ∗ rrE d 0 0 ∗ rrE d 0 512 ∗ rrE d 2 0 ∗ rrE d 2 512)
/-- to the device after it. -/
def toNxt (d : Dev nD) : sProp 𝕄 := iprop(wgE d 2 0 ∗ wgE d 2 2048 ∗ wgE d 3 2048 ∗ rrE d 1 0 ∗ rrE d 1 512)

/-- By a transfer's completion at its issuer: the lent source back. -/
def sendPay (c : Dev nD) (s : Fin 12) : sProp 𝕄 := match s.val with
  | 0 => wgP m c 0 0 qR | 1 => wgP m c 0 2048 qR | 2 => wgP m c 0 0 qL | 3 => wgP m c 0 2048 qL
  | 4 => wgP m c 1 0 qT | 5 => wgP m c 2 2048 qT
  | 6 => rsP m c 0 0 | 7 => rsP m c 0 512 | 8 => rsP m c 1 0 | 9 => rsP m c 1 512 | 10 => rsP m c 2 0 | _ => rsP m c 2 512

/-- What travels beside transfer `s` into device `d`: with slot 2, the opposite device's result slot 2. -/
def ride (d : Dev nD) (s : Fin 12) : sProp 𝕄 := match s.val with
  | 2 => iprop(rrE (dia d) 2 0 ∗ rrE (dia d) 2 512)
  | _ => iprop(emp)

/-- The place transfer `s` fills on device `d`. -/
def landPay (d : Dev nD) (s : Fin 12) : sProp 𝕄 := match s.val with
  | 0 => wgP m d 1 0 fullShare | 1 => wgP m d 1 2048 fullShare | 2 => wgP m d 2 0 fullShare | 3 => wgP m d 2 2048 fullShare
  | 4 => wgP m d 3 0 fullShare | 5 => wgP m d 3 2048 fullShare
  | 6 => rrP m d 0 0 | 7 => rrP m d 0 512 | 8 => rrP m d 1 0 | 9 => rrP m d 1 512 | 10 => rrP m d 2 0 | _ => rrP m d 2 512

/-- By its completion at the receiver: that place, written, and what travels beside. -/
def recvPay (d : Dev nD) (s : Fin 12) : sProp 𝕄 := iprop(landPay m d s ∗ ride d s)

/-- Where transfer `s` goes, -/
def tgt (s : Fin 12) (c : Dev nD) : Dev nD := match s.val with
  | 2 | 3 | 5 | 8 | 9 => prv c
  | 10 | 11 => dia c
  | _ => nxt c
/-- and comes from. -/
def orig (s : Fin 12) (d : Dev nD) : Dev nD := match s.val with
  | 2 | 3 | 5 | 8 | 9 => nxt d
  | 10 | 11 => dia d
  | _ => prv d
theorem tgt_orig (s : Fin 12) (d : Dev nD) : tgt s (orig s d) = d := by revert s d; decide
theorem orig_tgt (s : Fin 12) (c : Dev nD) : orig s (tgt s c) = c := by revert s c; decide

instance wgP_storable (c : Dev nD) (s r : ℕ) (q) : BI.Storable (upEmb : UEmb _ 𝕄) (wgP m c s r q) := by unfold wgP; infer_instance
instance rsP_storable (c : Dev nD) (s r : ℕ) : BI.Storable (upEmb : UEmb _ 𝕄) (rsP m c s r) := by unfold rsP; infer_instance
instance rrP_storable (c : Dev nD) (s r : ℕ) : BI.Storable (upEmb : UEmb _ 𝕄) (rrP m c s r) := by unfold rrP; infer_instance
omit [FloatOps F] in
instance wgE_storable (c : Dev nD) (s r : ℕ) : BI.Storable (upEmb : UEmb _ 𝕄) (wgE (F := F) c s r) := by unfold wgE; infer_instance
omit [FloatOps F] in
instance rrE_storable (c : Dev nD) (s r : ℕ) : BI.Storable (upEmb : UEmb _ 𝕄) (rrE (F := F) c s r) := by unfold rrE; infer_instance
instance sendPay_storable (c : Dev nD) (s : Fin 12) : BI.Storable (upEmb : UEmb _ 𝕄) (sendPay m c s) := by
  unfold sendPay; split <;> infer_instance
omit [FloatOps F] in
instance ride_storable (c : Dev nD) (s : Fin 12) : BI.Storable (upEmb : UEmb _ 𝕄) (ride (F := F) c s) := by
  unfold ride; split <;> infer_instance
instance landPay_storable (c : Dev nD) (s : Fin 12) : BI.Storable (upEmb : UEmb _ 𝕄) (landPay m c s) := by
  unfold landPay; split <;> infer_instance
instance recvPay_storable (c : Dev nD) (s : Fin 12) : BI.Storable (upEmb : UEmb _ 𝕄) (recvPay m c s) := by
  unfold recvPay; infer_instance
omit [FloatOps F] in
instance toPrv_storable (c : Dev nD) : BI.Storable (upEmb : UEmb _ 𝕄) (toPrv (F := F) c) := by unfold toPrv; infer_instance
omit [FloatOps F] in
instance toNxt_storable (c : Dev nD) : BI.Storable (upEmb : UEmb _ 𝕄) (toNxt (F := F) c) := by unfold toNxt; infer_instance

/-! ## The schedule -/

set_option backward.proofsInPublic true in
/-- The slot of a transfer semaphore: `false` its issuer's, `true` its receiver's. -/
def slotOf (q : DmaSem sig) : Option (Bool × Fin 12) :=
  if h : 2 ≤ q.val ∧ q.val < 14 then some (false, ⟨q.val - 2, by omega⟩)
  else if h : 14 ≤ q.val ∧ q.val < 26 then some (true, ⟨q.val - 14, by omega⟩) else none

theorem slotOf_send (s : Fin 12) : slotOf (sendS s) = some (false, s) := by revert s; decide
theorem slotOf_recv (s : Fin 12) : slotOf (recvS s) = some (true, s) := by revert s; decide

/-- One round on every cell of the exchange. The entry barrier has two duties of one unit: `true` paid by the device
    after, `false` by the device before. A transfer's two cells have the one duty `false` of its credits. -/
def kRd : Rounds.Schedule (GSem nD τ sig) Bool 𝕄 where
  duties g r := if r = 0 ∧ g.1.2 = .tc then
      match g.2 with
      | .reg b => if b = barS then Finset.univ else ∅
      | .dma q => if (slotOf q).isSome then {false} else ∅
    else ∅
  unitless _ := False
  amount g _ _ := match g.2 with
    | .reg _ => 1
    | .dma q => match slotOf q with
      | some (_, s) => NN s
      | none => 1
  payload g _ d := match g.2 with
    | .reg _ => if d then toPrv (nxt g.1.1) else toNxt (prv g.1.1)
    | .dma q => match slotOf q with
      | some (false, s) => sendPay m g.1.1 s
      | some (true, s) => recvPay m g.1.1 s
      | none => iprop(emp)
  amount_pos g _ _ _ := by
    split
    · exact Nat.one_pos
    · split
      · exact NN_pos _
      · exact Nat.one_pos

instance kRd_payload_storable (g : GSem nD τ sig) (r : ℕ) (d : Bool) : BI.Storable (upEmb : UEmb _ 𝕄) ((kRd m).payload g r d) := by
  dsimp only [kRd]
  (repeat' split) <;> infer_instance

section Sched
variable (c : Dev nD) (s : Fin 12)

theorem duties_bar : (kRd m).duties (barCell c) 0 = Finset.univ := by
  dsimp only [kRd]; rw [if_pos ⟨rfl, rfl⟩, if_pos rfl]
theorem duties_send : (kRd m).duties (sendCell c s) 0 = {false} := by
  dsimp only [kRd]; rw [if_pos ⟨rfl, rfl⟩, slotOf_send]; rfl
theorem duties_recv : (kRd m).duties (recvCell c s) 0 = {false} := by
  dsimp only [kRd]; rw [if_pos ⟨rfl, rfl⟩, slotOf_recv]; rfl
theorem duties_later (g : GSem nD τ sig) : ∀ r, 1 ≤ r → (kRd m).duties g r = ∅ := fun r hr => by
  dsimp only [kRd]; rw [if_neg fun h => by omega]
theorem amount_bar (d : Bool) : (kRd m).amount (barCell c) 0 d = 1 := rfl
theorem amount_send (d : Bool) : (kRd m).amount (sendCell c s) 0 d = NN s := by dsimp only [kRd]; rw [slotOf_send]
theorem amount_recv (d : Bool) : (kRd m).amount (recvCell c s) 0 d = NN s := by dsimp only [kRd]; rw [slotOf_recv]
theorem expect_bar : (kRd m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (kRd m).expect (sendCell c s) 0 = NN s := by
  unfold Schedule.expect Schedule.amountOf; rw [duties_send, Finset.sum_singleton, amount_send]
theorem expect_recv : (kRd m).expect (recvCell c s) 0 = NN s := by
  unfold Schedule.expect Schedule.amountOf; rw [duties_recv, Finset.sum_singleton, amount_recv]
theorem payload_bar_true : (kRd m).payload (barCell c) 0 true = toPrv (nxt c) := rfl
theorem payload_bar_false : (kRd m).payload (barCell c) 0 false = toNxt (prv c) := rfl
theorem payload_send (d : Bool) : (kRd m).payload (sendCell c s) 0 d = sendPay m c s := by dsimp only [kRd]; rw [slotOf_send]
theorem payload_recv (d : Bool) : (kRd m).payload (recvCell c s) 0 d = recvPay m c s := by dsimp only [kRd]; rw [slotOf_recv]
theorem rest_bar : bigSep ((kRd m).duties (barCell c) 0 \ ∅) (fun d => (kRd m).payload (barCell c) 0 d) = iprop(toNxt (prv c) ∗ toPrv (nxt c)) := by
  rw [Finset.sdiff_empty, duties_bar, bigSep_univ_eq_bigSepL [false, true] (by decide) (by decide), bigSepL_cons_cons, bigSepL_singleton,
    payload_bar_false, payload_bar_true]
  rfl
theorem rest_send : bigSep ((kRd m).duties (sendCell c s) 0 \ ∅) (fun d => (kRd m).payload (sendCell c s) 0 d) = sendPay m c s := by
  rw [Finset.sdiff_empty, duties_send, bigSep_singleton, payload_send]
theorem rest_recv : bigSep ((kRd m).duties (recvCell c s) 0 \ ∅) (fun d => (kRd m).payload (recvCell c s) 0 d) = recvPay m c s := by
  rw [Finset.sdiff_empty, duties_recv, bigSep_singleton, payload_recv]

end Sched

/-! ## What a device owes, and the levels -/

/-- The credits device `c` still owes: those of the transfers `l` it has yet to issue, first one outermost. -/
def Ow (c : Dev nD) : List (Fin 12) → CellTallies nD τ sig Unit
  | [] => 0
  | s :: l => Ow c l + tallyAt (recvCell (tgt s c) s) () (NN s)

/-- The transfers in program order. -/
def order : List (Fin 12) := [0, 2, 1, 3, 4, 5, 6, 8, 7, 9, 10, 11]

def O₁ (c : Dev nD) : CellTallies nD τ sig Unit := Ow c order + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a receive slot: own weights 2, passed-on weights 3, results 4. -/
def lvR (s : Fin 12) : ℕ := if s.val < 4 then 2 else if s.val < 6 then 3 else 4
/-- The level of a semaphore: barriers 1, receive slots as above, everything else 0. -/
def lvS (sm : SemLoc sig) : ℕ := match sm with
  | .reg b => 1
  | .dma q => match slotOf q with
    | some (true, s) => lvR s
    | _ => 0
def lv (g : GSem nD τ sig) (_ : Unit) : ℕ := lvS g.2

theorem lvS_recv (s : Fin 12) : lvS (.dma (recvS s)) = lvR s := by show (match slotOf (recvS s) with | some (true, s) => lvR s | _ => 0) = _; rw [slotOf_recv]
theorem lvS_send (s : Fin 12) : lvS (.dma (sendS s)) = 0 := by show (match slotOf (sendS s) with | some (true, s) => lvR s | _ => 0) = _; rw [slotOf_send]
theorem lvR_pos (s : Fin 12) : 0 < lvR s := by revert s; decide
theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {g : GSem nD τ sig} {u : Unit} : ∀ {l : List (Fin 12)}, 0 < Ow c l g u → ∃ s ∈ l, g = recvCell (tgt s c) s
  | [], h => by exact absurd h (Nat.lt_irrefl 0)
  | s :: l, h => by
    unfold Ow at h
    rw [Pi.add_apply, Finsupp.add_apply, tallyAt_apply] at h
    by_cases hs : g = recvCell (tgt s c) s
    · exact ⟨s, List.mem_cons_self, hs⟩
    · rw [if_neg (fun h' => hs h'.1), Nat.add_zero] at h
      obtain ⟨s', h1, h2⟩ := Ow_pos h
      exact ⟨s', List.mem_cons_of_mem _ h1, h2⟩

/-- A wait at a semaphore below every transfer still owed. -/
theorem mayWait (c : Dev nD) (sm : SemLoc sig) (l : List (Fin 12)) (h : ∀ s ∈ l, lvS sm < lvR s) :
    (levAts L lv : sProp 𝕄) ⊢ MayWait (c : Thread nD τ) sm () (Ow c l) :=
  MayOwe.of_cut (L := L) (lev := lv) (lvS sm) (fun p hp => by rw [Finset.mem_singleton.mp hp, L_tc]; exact Finset.mem_singleton_self _)
    (fun g u hg => by obtain ⟨s, _, rfl⟩ := Ow_pos hg; exact Finset.mem_singleton_self _)
    (fun p hp => by rw [Finset.mem_singleton.mp hp]; exact Nat.le_refl _)
    (fun g u hg => by obtain ⟨s, hs, rfl⟩ := Ow_pos hg; show lvS sm < lvS (.dma (recvS s)); rw [lvS_recv]; exact h s hs)

theorem O₀_pos {c : Dev nD} {g : GSem nD τ sig} {u : Unit} (h : 0 < O₀ c g u) :
    (∃ s ∈ order, g = recvCell (tgt s c) s) ∨ g = barCell (nxt c) ∨ g = barCell (prv c) := by
  have key : ∀ (X : CellTallies nD τ sig Unit) (g₁ g₂ : GSem nD τ sig), 0 < (X + tallyAt g₁ () 1 + tallyAt g₂ () 1) g u → 0 < X g u ∨ g = g₁ ∨ g = g₂ := by
    intro X g₁ g₂ h
    rw [Pi.add_apply, Finsupp.add_apply, Pi.add_apply, Finsupp.add_apply, tallyAt_apply, tallyAt_apply] at h
    by_contra hn
    rw [not_or, not_or] at hn
    rw [if_neg (fun h' => hn.2.1 h'.1), if_neg (fun h' => hn.2.2 h'.1)] at h
    exact hn.1 h
  rcases key _ _ _ h with h | h | h
  · exact Or.inl (Ow_pos h)
  · exact Or.inr (Or.inl h)
  · exact Or.inr (Or.inr h)

/-- A wait of the staging pipeline, whatever is owed. -/
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, _, rfl⟩ | rfl | rfl <;> exact Finset.mem_singleton_self _)
      (fun p hp => by rw [Finset.mem_singleton.mp hp]; show (match slotOf q with | some (true, s) => lvR s | _ => 0) ≤ 0; rw [hq])
      (fun g u hg => by
        rcases O₀_pos hg with ⟨s, _, rfl⟩ | rfl | rfl
        · show 0 < lvS (.dma (recvS s)); rw [lvS_recv]; exact lvR_pos s
        · exact Nat.one_pos
        · exact Nat.one_pos)
  · rw [MayWait_zero]; iintro -; iempintro

end Cert.KProof

end
-- ==== Proof.Steps.lean ====
/-
  One lemma per kind of effect of the body, stated at the exchange's own resources: a transfer to another device,
  the waits at its two ends, a transfer within the device and its wait, a store that makes a region hold what it is
  to hold; and the index arithmetic of the views they go through.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The persistent context -/

set_option backward.proofsInPublic true in
/-- The exchange's semaphores of a device: the entry barrier, the twelve send slots, the twelve receive slots. -/
def csem (k : Fin 25) : SemLoc sig := if k.val = 0 then .reg barS else .dma ⟨k.val + 1, by have := k.isLt; show _ < 34; omega⟩
def kcell (ck : Dev nD × Fin 25) : GSem nD τ sig := ((ck.1 : Thread nD τ), csem ck.2)

/-- Every cell's invariant, that every cell has reached round 0, and the levels. -/
def ctx (K : Dev nD × Fin 25 → ℕ) : sProp 𝕄 :=
  iprop((bigSep Finset.univ fun ck : Dev nD × Fin 25 => cellInv EX (kRd m) (K ck) (kcell ck))
    ∗ (bigSep Finset.univ fun ck : Dev nD × Fin 25 => reached EX (kcell ck) 0) ∗ levAts L lv)

instance ctx_persistent (K : Dev nD × Fin 25 → ℕ) : BI.Persistent (ctx m K) := by unfold ctx; infer_instance

abbrev kS (s : Fin 12) : Fin 25 := ⟨1 + s.val, by have := s.isLt; omega⟩
abbrev kR (s : Fin 12) : Fin 25 := ⟨13 + s.val, by have := s.isLt; omega⟩
theorem kcell_bar (c : Dev nD) : kcell (c, 0) = barCell c := rfl
theorem kcell_send (c : Dev nD) (s : Fin 12) : kcell (c, kS s) = sendCell c s := by revert s; decide +revert
theorem kcell_recv (c : Dev nD) (s : Fin 12) : kcell (c, kR s) = recvCell c s := by revert s; decide +revert

variable (K : Dev nD × Fin 25 → ℕ)

theorem inv_at (ck : Dev nD × Fin 25) :
    (bigSep Finset.univ fun ck : Dev nD × Fin 25 => (cellInv EX (kRd m) (K ck) (kcell ck) : sProp 𝕄)) ⊢ cellInv EX (kRd m) (K ck) (kcell ck) :=
  bigSep_elim (Finset.mem_univ ck)
theorem reached_at (ck : Dev nD × Fin 25) :
    (bigSep Finset.univ fun ck : Dev nD × Fin 25 => (reached EX (kcell ck) 0 : sProp 𝕄)) ⊢ reached EX (kcell ck) 0 :=
  bigSep_elim (Finset.mem_univ ck)

theorem ctx_at (ck : Dev nD × Fin 25) : ctx m K ⊢ iprop(cellInv EX (kRd m) (K ck) (kcell ck) ∗ reached EX (kcell ck) 0 ∗ levAts L lv) := by
  unfold ctx
  iintro ⟨#HI, #HR, #HL⟩
  isplitr; · iapply (inv_at m K ck); iexact HI
  isplitr; · iapply (reached_at (F := F) ck); iexact HR
  iexact HL
theorem ctx_bar (c : Dev nD) : ctx m K ⊢ iprop(cellInv EX (kRd m) (K (c, 0)) (barCell c) ∗ reached EX (barCell c) 0 ∗ levAts L lv) := ctx_at m K (c, 0)
theorem ctx_send (c : Dev nD) (s : Fin 12) : ctx m K ⊢ iprop(cellInv EX (kRd m) (K (c, kS s)) (sendCell c s) ∗ reached EX (sendCell c s) 0 ∗ levAts L lv) := by
  rw [← kcell_send]; exact ctx_at m K (c, kS s)
theorem ctx_recv (c : Dev nD) (s : Fin 12) : ctx m K ⊢ iprop(cellInv EX (kRd m) (K (c, kR s)) (recvCell c s) ∗ reached EX (recvCell c s) 0 ∗ levAts L lv) := by
  rw [← kcell_recv]; exact ctx_at m K (c, kR s)
theorem ctx_lev : ctx m K ⊢ levAts L lv := by
  unfold ctx; iintro ⟨-, -, #HL⟩; iexact HL

/-! ## Ghost bundles -/

/-- What a device needs to issue transfer `s`; -/
def sReady (c : Dev nD) (s : Fin 12) : sProp 𝕄 :=
  iprop(dutyTok EX (sendCell c s) 0 false ∗ dutyTok EX (recvCell (tgt s c) s) 0 false ∗ atPos EX (sendCell c s) 0 ∅ 0)
/-- has while it is in flight; -/
def sFly (c : Dev nD) (s : Fin 12) : sProp 𝕄 := iprop(cred (tallyAt (sendCell c s) () (NN s)) ∗ atPos EX (sendCell c s) 0 ∅ 0)
/-- and needs to receive into slot `s`. -/
def rReady (c : Dev nD) (s : Fin 12) : sProp 𝕄 := iprop(cred (tallyAt (recvCell c s) () (NN s)) ∗ atPos EX (recvCell c s) 0 ∅ 0)
/-- The device owes the transfers `l`, whatever it has waited on. -/
def OW (c : Dev nD) (l : List (Fin 12)) : sProp 𝕄 := iprop(∃ W : Waits sig Unit, owes (c : Thread nD τ) (Ow c l) W)

abbrev 𝒱₀ : Variants := Variants.none

/-- The weakest precondition of a program on device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Transfers to another device -/

/-- Through two views of one shape, what is written where is decided element by element. -/
theorem land_congr {κ κ' : Kind} {sp sp' : Space} {s : Shape} {e : EltTy} (src : View sig κ sp s e) (dst : View sig κ' sp' s e)
    (fs : src.ty.Contents (Elt F)) (fd G : dst.ty.Contents (Elt F))
    (h : ∀ j, src.read (Elt F) fs j = dst.read (Elt F) G j) :
    ∀ i ∈ dst.set, dst.write (Elt F) fd (src.read (Elt F) fs) Finset.univ i = G i := by
  intro i hi
  obtain ⟨x, rfl⟩ : ∃ x, dst.emb x = i := by
    unfold View.set at hi
    obtain ⟨x, _, hx⟩ := Finset.mem_map.mp hi
    exact ⟨x, hx⟩
  rw [View.write_emb_of_mem (h := Finset.mem_univ x), h x, View.read_apply]
  simp

theorem send_step (c : Dev nD) (s : Fin 12) (l : List (Fin 12)) {sp sp' : Space} {sh : Shape} {e : EltTy}
    {src : Memref sig .tc sp sh e} {n : Dev nD} (hn : n = tgt s c) {dst : Memref sig .tc sp' sh e}
    {hsc : (dst : Memref sig (Dev.tc n : Thread nD τ).2.kind sp' sh e).view.ref.isScScratch = false}
    {sS sR : DmaSem sig} (hS : sS = sendS s) (hR : sR = recvS s)
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α}
    (hN : dst.view.dmaCredit = NN s) {q : PosShare TreeShare} {fs : Buf (Elt F) (src.view.loc (c : Thread nD τ))}
    (G : Buf (Elt F) (dst.view.loc (tgt s c : Thread nD τ)))
    (hsnd : (src.view.loc (c : Thread nD τ) ↦[src.view.set]{q} fs) ⊢ sendPay m c s)
    (hrcv : (dst.view.loc (tgt s c : Thread nD τ) ↦[dst.view.set]{fullShare} G) ⊢ landPay m (tgt s c) s)
    (hval : ∀ j, src.view.read (Elt F) fs j = dst.view.read (Elt F) G j) :
    iprop(ctx m K ∗ (src.view.loc (c : Thread nD τ) ↦[src.view.set]{q} fs)
        ∗ (∃ fd, dst.view.loc (tgt s c : Thread nD τ) ↦[dst.view.set]{fullShare} fd) ∗ ride (tgt s c) s ∗ sReady c s ∗ OW c (s :: l))
      ⊢ iprop((iprop(sFly c s ∗ OW c l) -∗ wpc c (k ⟨⟩) Q)
          -∗ wpc c (.op (.enqueueDma src (.remote (Dev.tc n : Thread nD τ) dst (.dma sS) hsc) (.dma sR) hsrc hdst hsem) k) Q) := by
  subst hn hS hR
  unfold sReady sFly OW
  iintro ⟨#Hc, Hs, ⟨%fd, Hd⟩, Hr, ⟨Ht1, Ht2, Ha⟩, ⟨%W, HO⟩⟩ Hk
  ihave H1 := (ctx_send m K c s) $$ Hc
  ihave H2 := (ctx_recv m K (tgt s c) s) $$ Hc
  icases H1 with ⟨#HI1, #HR1, -⟩
  icases H2 with ⟨#HI2, #HR2, -⟩
  iapply (Rounds.wp_send_pointsTo_with 𝒱₀ EX (kRd m) (c : Thread nD τ) none (c' := (tgt s c : Thread nD τ)) (κ₁ := K (c, kS s)) (κ₂ := K (tgt s c, kR s))
    (r₁ := 0) (r₂ := 0) (d₁ := false) (d₂ := false) (fd := fd) (F := ride (tgt s c) s)
    (by rw [duties_send]; exact Finset.mem_singleton_self _) (by rw [duties_recv]; exact Finset.mem_singleton_self _)
    () () (NN s) (show dst.view.amount (.dma (recvS s)) = NN s from hN) (amount_send m c s false) (amount_recv m (tgt s c) s false) (Ow c l) rfl
    (by rw [payload_send]; exact hsnd)
    (by
      rw [payload_recv, pointsTo_congr (land_congr (F := F) src.view dst.view fs fd G hval)]
      exact sep_mono_left hrcv)) $$ [Hs Hd Hr Ht1 Ht2 HO]
  · isplitr; · iexact HI1
    isplitr; · iexact HI2
    isplitl [Hs]; · iexact Hs
    isplitl [Hd Hr]
    · isplitl [Hd] <;> iassumption
    isplitl [HO]; · iexact HO
    isplitl [Ht1]; · iexact Ht1
    isplitr; · iexact HR1
    isplitl [Ht2]; · iexact Ht2
    iexact HR2
  iintro ⟨Hcr, HO⟩
  iapply Hk
  isplitl [Hcr Ha]
  · isplitl [Hcr] <;> iassumption
  iexists W; iexact HO

/-- The wait at a receive slot: the place filled and what travels beside it, the cell closed. -/
theorem recv_wait (c : Dev nD) (s : Fin 12) (l : List (Fin 12)) (hl : ∀ s' ∈ l, lvR s < lvR s') {sp sp' : Space} {sh sh' : Shape} {e e' : EltTy}
    {sem : DmaSem sig} (hs : sem = recvS s) {srcw : Memref sig .tc sp' sh' e'} {dstw : Memref sig .tc sp sh e}
    {hsrc : srcw.view.WordExact} {hdst : dstw.view.WordExact}
    {α : Type} {Q : α → sProp 𝕄} {k : PUnit → Prog (TpuEff nD τ sig (Elt F) Λ₀ .tc) α} (hN : dstw.view.dmaCredit = NN s) :
    iprop(ctx m K ∗ rReady c s ∗ OW c l)
      ⊢ iprop((iprop(landPay m c s ∗ ride c s ∗ semVal (recvCell c s) 0 ∗ OW c l) -∗ wpc c (k ⟨⟩) Q)
          -∗ wpc c (.op (.waitDma2 sem srcw dstw hsrc hdst) k) Q) := by
  subst hs
  unfold rReady OW
  iintro ⟨#Hc, ⟨Hcr, Ha⟩, ⟨%W, HO⟩⟩ Hk
  ihave H1 := (ctx_recv m K c s) $$ Hc
  icases H1 with ⟨#HI, -, #HL⟩
  rw [← hN]
  iapply (Rounds.wp_wait_rest_token 𝒱₀ EX (kRd m) (c : Thread nD τ) none (κ := K (c, kR s))
      (wpE_waitDma2_eq 𝒱₀ (c : Thread nD τ) none Set.univ) (Set.mem_univ _) () (O := Ow c l) (W := W) (R := 0) (m := 0) (T := ∅)
      (by rw [Nat.zero_add, expect_recv]; exact hN)) $$ [Hcr HO Ha]
  · isplitr; · iexact HI
    isplitl [Hcr]; · iexact Hcr
    isplitl [HO]; · iexact HO
    isplitr; · iapply (mayWait c (.dma (recvS s)) l (by rw [lvS_recv]; exact hl)); iexact HL
    iexact Ha
  iintro ⟨HO, Ha, -, Hpay⟩
  ihave Hp := (Entails.of_eq (rest_recv m c s)) $$ Hpay
  imod (Rounds.cell_close EX (kRd m) (Set.mem_univ (K (c, kR s))) (fun h => h) (R := 0 + 1) (duties_later m (recvCell c s))) $$ [Ha] with Hz
  · isplitr; · iexact HI
    iexact Ha
  iapply Hk
  unfold recvPay
  icases Hp with ⟨H1, H2⟩
  isplitl [H1]; · iexact H1
  isplitl [H2]; · iexact H2
  isplitl [Hz]; · iexact Hz
  iexists _; iexact HO

/-- The wait at a send slot: the lent source back, the cell closed. -/
theorem send_wait (c : Dev nD) (s : Fin 12) {sp sp' : Space} {sh sh' : Shape} {e e' : EltTy}
    {sem : DmaSem sig} (hs : sem = sendS s) {srcw : Memref sig .tc sp' sh' e'} {dstw : Memref sig .tc sp sh e}
    {hsrc : srcw.view.WordExact} {hdst : dstw.view.WordExact}
    {α : Type} {Q : α → sProp 𝕄} {k : PUnit → Prog (TpuEff nD τ sig (Elt F) Λ₀ .tc) α} (hN : dstw.view.dmaCredit = NN s) :
    iprop(ctx m K ∗ sFly c s ∗ OW c [])
      ⊢ iprop((iprop(sendPay m c s ∗ semVal (sendCell c s) 0 ∗ OW c []) -∗ wpc c (k ⟨⟩) Q)
          -∗ wpc c (.op (.waitDma2 sem srcw dstw hsrc hdst) k) Q) := by
  subst hs
  unfold sFly OW
  iintro ⟨#Hc, ⟨Hcr, Ha⟩, ⟨%W, HO⟩⟩ Hk
  ihave H1 := (ctx_send m K c s) $$ Hc
  icases H1 with ⟨#HI, -, #HL⟩
  rw [← hN]
  iapply (Rounds.wp_wait_rest_token 𝒱₀ EX (kRd m) (c : Thread nD τ) none (κ := K (c, kS s))
      (wpE_waitDma2_eq 𝒱₀ (c : Thread nD τ) none Set.univ) (Set.mem_univ _) () (O := Ow c []) (W := W) (R := 0) (m := 0) (T := ∅)
      (by rw [Nat.zero_add, expect_send]; exact hN)) $$ [Hcr HO Ha]
  · isplitr; · iexact HI
    isplitl [Hcr]; · iexact Hcr
    isplitl [HO]; · iexact HO
    isplitr; · iapply (mayWait c (.dma (sendS s)) [] (by intro _ h; cases h)); iexact HL
    iexact Ha
  iintro ⟨HO, Ha, -, Hpay⟩
  ihave Hp := (Entails.of_eq (rest_send m c s)) $$ Hpay
  imod (Rounds.cell_close EX (kRd m) (Set.mem_univ (K (c, kS s))) (fun h => h) (R := 0 + 1) (duties_later m (sendCell c s))) $$ [Ha] with Hz
  · isplitr; · iexact HI
    iexact Ha
  iapply Hk
  isplitl [Hp]; · iexact Hp
  isplitl [Hz]; · iexact Hz
  iexists _; iexact HO

/-! ## Transfers within the device -/

/-- A transfer within the device: both ends are lent to it until its wait. -/
theorem copy_start (c : Dev nD) {sp sp' : Space} {sh : Shape} {e : EltTy} {src : Memref sig .tc sp sh e} {dst : Memref sig .tc sp' sh e}
    {sem sm : DmaSem sig} (hs : sem = sm) {hsrc : src.view.WordExact} {hdst : dst.view.WordExact} {hsem : DmaTarget.Typed (nD := nD) (τ := τ) sp (.dma sem) (.here (p := (Dev.tc c : Thread nD τ).2) dst)}
    {α : Type} {Q : α → sProp 𝕄} {k : PUnit → Prog (TpuEff nD τ sig (Elt F) Λ₀ .tc) α} {q : PosShare TreeShare}
    {fs : Buf (Elt F) (src.view.loc (c : Thread nD τ))} (G : Buf (Elt F) (dst.view.loc (c : Thread nD τ))) (hpos : 0 < sh.numel)
    {N : ℕ} (hN : dst.view.dmaCredit = N)
    (hval : ∀ j, src.view.read (Elt F) fs j = dst.view.read (Elt F) G j) :
    iprop((src.view.loc (c : Thread nD τ) ↦[src.view.set]{q} fs) ∗ (∃ fd, dst.view.loc (c : Thread nD τ) ↦[dst.view.set]{fullShare} fd)
        ∗ semVal ((c : Thread nD τ), .dma sm) 0)
      ⊢ iprop((Transfers.Flight EC (c : Thread nD τ) (.dma sm) () N
              iprop((dst.view.loc (c : Thread nD τ) ↦[dst.view.set]{fullShare} G) ∗ (src.view.loc (c : Thread nD τ) ↦[src.view.set]{q} fs))
            -∗ wpc c (k ⟨⟩) Q)
          -∗ wpc c (.op (.enqueueDma src (.here dst) (.dma sem) hsrc hdst hsem) k) Q) := by
  subst hs hN
  iintro ⟨Hs, ⟨%fd, Hd⟩, Hv⟩ Hk
  have e : (dst.view.loc (c : Thread nD τ) ↦[dst.view.set]{fullShare} dst.view.write (Elt F) fd (ReadAs.same.apply (src.view.read (Elt F) fs)) Finset.univ : sProp 𝕄)
      = (dst.view.loc (c : Thread nD τ) ↦[dst.view.set]{fullShare} G) := pointsTo_congr (land_congr (F := F) src.view dst.view fs fd G hval)
  rw [← e]
  iapply (Transfers.wp_dmaLocal EC 𝒱₀ (c : Thread nD τ) none (Sd := dst.view.set) (fd := fd) () dst.view.dmaCredit rfl (View.dmaCredit_pos _ hpos) (Finset.Subset.refl _)) $$ [Hs Hd Hv]
  · isplitl [Hs]; · iexact Hs
    isplitl [Hd] <;> iassumption
  iintro HF
  iapply Hk
  iexact HF

/-- Its wait. -/
theorem copy_wait (c : Dev nD) (l : List (Fin 12)) {sp sp' : Space} {sh sh' : Shape} {e e' : EltTy}
    {sem sm : DmaSem sig} (hs : sem = sm) (hl : lvS (.dma sm) = 0) {srcw : Memref sig .tc sp' sh' e'} {dstw : Memref sig .tc sp sh e}
    {hsrc : srcw.view.WordExact} {hdst : dstw.view.WordExact}
    {α : Type} {Q : α → sProp 𝕄} {k : PUnit → Prog (TpuEff nD τ sig (Elt F) Λ₀ .tc) α} {N : ℕ} (hN : dstw.view.dmaCredit = N) {D : sProp 𝕄} :
    iprop(ctx m K ∗ Transfers.Flight EC (c : Thread nD τ) (.dma sm) () N D ∗ OW c l)
      ⊢ iprop((iprop(D ∗ semVal ((c : Thread nD τ), .dma sm) 0 ∗ OW c l) -∗ wpc c (k ⟨⟩) Q)
          -∗ wpc c (.op (.waitDma2 sem srcw dstw hsrc hdst) k) Q) := by
  subst hs
  unfold OW
  iintro ⟨#Hc, HF, ⟨%W, HO⟩⟩ Hk
  ihave #HL := (ctx_lev m K) $$ Hc
  iapply (Transfers.wp_waitLocalO EC 𝒱₀ (c : Thread nD τ) none () hN (O := Ow c l) (W := W)) $$ [HF HO]
  · isplitl [HF]; · iexact HF
    isplitl [HO]; · iexact HO
    iapply (mayWait c (.dma sem) l (fun s _ => by rw [hl]; exact lvR_pos s)); iexact HL
  iintro ⟨HD, Hz, HO⟩
  iapply Hk
  isplitl [HD]; · iexact HD
  isplitl [Hz]; · iexact Hz
  iexists _; iexact HO

end Cert.KProof

end
-- ==== Proof.Views.lean ====
/-
  The kernel's own transfers, loads and stores at the regions they touch: for each, what the region holds afterwards.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-! ## Regions -/

abbrev x8B (r : ℕ) : Finset S1024x4096.Idx := bx ![r, 0] S512x4096.size
abbrev wB (r : ℕ) : Finset S4096x512.Idx := bx ![r, 0] S2048x512.size
abbrev oB (r : ℕ) : Finset S4096x512.Idx := bx ![r, 0] S512x512.size
abbrev xsB (a : ℕ) : Finset S2x512x4096.Idx := bx ![a, 0, 0] S1x512x4096.size
abbrev wsB (a : ℕ) : Finset S2x2048x512.Idx := bx ![a, 0, 0] S1x2048x512.size
abbrev osB (a : ℕ) : Finset S4x512x512.Idx := bx ![a, 0, 0] S1x512x512.size
abbrev wgSB (s : ℕ) : Finset S4x4096x512.Idx := bx ![s, 0, 0] S1x4096x512.size

/-- Half the rows, half the weights, in the arguments; -/
def xP (r : ℕ) : sProp 𝕄 := (c : Thread nD τ).loc main_arg0 ↦[x8B r]{fullShare} xA m c
def wP (r : ℕ) : sProp 𝕄 := (c : Thread nD τ).loc main_arg1 ↦[wB r]{fullShare} wA m c
/-- in the staging slots; -/
def xsP (a : ℕ) : sProp 𝕄 := xsL c ↦[xsB a]{fullShare} xsF m c
def xsE (a : ℕ) : sProp 𝕄 := iprop(∃ f : Buf (Elt F) (xsL c), xsL c ↦[xsB a]{fullShare} f)
def wsP (a : ℕ) : sProp 𝕄 := wsL c ↦[wsB a]{fullShare} wsF m c
def wsE (a : ℕ) : sProp 𝕄 := iprop(∃ f : Buf (Elt F) (wsL c), wsL c ↦[wsB a]{fullShare} f)
/-- the rows narrowed; -/
def x8P (r : ℕ) : sProp 𝕄 := x8L c ↦[x8B r]{fullShare} x8 m c
def x8E (r : ℕ) : sProp 𝕄 := iprop(∃ f : Buf (Elt F) (x8L c), x8L c ↦[x8B r]{fullShare} f)
/-- a whole slab of the gather buffer; -/
def wgS (s : ℕ) (q : PosShare TreeShare) : sProp 𝕄 := wgL c ↦[wgSB s]{q} wgF m c
/-- an output slot, holding half of device `d`'s rows of the result; and that part of the result. -/
def osP (a : ℕ) (d : Dev nD) (h : Fin 2) : sProp 𝕄 := osL c ↦[osB a]{fullShare} osF m c d h
def osE (a : ℕ) : sProp 𝕄 := iprop(∃ f : Buf (Elt F) (osL c), osL c ↦[osB a]{fullShare} f)
def oP (d : Dev nD) (h : Fin 2) : sProp 𝕄 := oL c ↦[oB (1024 * d.val + 512 * h.val)]{fullShare} outF m c
def oE (d : Dev nD) (h : Fin 2) : sProp 𝕄 := iprop(∃ f : Buf (Elt F) (oL c), oL c ↦[oB (1024 * d.val + 512 * h.val)]{fullShare} f)

/-! ## Coordinates behind a slice and a squeeze -/

section Coords
variable {a b k p q : ℕ} {off : Fin 3 → ℕ}

/-- Element `j` of a one-slab block, squeezed: the slab, and `j` offset. -/
theorem emb_sq (inb) (h) (j : (⟨2, ![p, q]⟩ : Shape).Idx) :
    (((Rect.unit (s := ⟨3, ![a, b, k]⟩) off ![1, p, q] inb).emb (Shape.reshapeEquiv (s := ⟨3, ![1, p, q]⟩) h j) 0).val = off 0)
    ∧ (((Rect.unit (s := ⟨3, ![a, b, k]⟩) off ![1, p, q] inb).emb (Shape.reshapeEquiv (s := ⟨3, ![1, p, q]⟩) h j) 1).val = off 1 + (j 0).val)
    ∧ (((Rect.unit (s := ⟨3, ![a, b, k]⟩) off ![1, p, q] inb).emb (Shape.reshapeEquiv (s := ⟨3, ![1, p, q]⟩) h j) 2).val = off 2 + (j 1).val) := by
  have e := Shape.reshapeEquiv_cons_one (n := 2) (d := ![p, q]) h j
  refine ⟨?_, ?_, ?_⟩
  · show off 0 + 1 * ((Shape.reshapeEquiv (s := ⟨3, ![1, p, q]⟩) h j) 0).val = _
    rw [e]; show off 0 + 1 * 0 = _; omega
  · show off 1 + 1 * ((Shape.reshapeEquiv (s := ⟨3, ![1, p, q]⟩) h j) 1).val = _
    rw [e]; show off 1 + 1 * (j 0).val = _; omega
  · show off 2 + 1 * ((Shape.reshapeEquiv (s := ⟨3, ![1, p, q]⟩) h j) 2).val = _
    rw [e]; show off 2 + 1 * (j 1).val = _; omega

/-- Element `j` of a rectangle. -/
theorem emb_un {n : ℕ} {d size off : Fin n → ℕ} (inb) (j : (⟨n, size⟩ : Shape).Idx) (i : Fin n) :
    ((Rect.unit (s := ⟨n, d⟩) off size inb).emb j i).val = off i + (j i).val := by
  show off i + 1 * (j i).val = _; omega
end Coords

theorem idx2_ext {d : Fin 2 → ℕ} {x y : (⟨2, d⟩ : Shape).Idx} (h0 : (x 0).val = (y 0).val) (h1 : (x 1).val = (y 1).val) : x = y :=
  funext fun a => Fin.ext <| match a with | ⟨0, _⟩ => h0 | ⟨1, _⟩ => h1
theorem idx3_ext {d : Fin 3 → ℕ} {x y : (⟨3, d⟩ : Shape).Idx} (h0 : (x 0).val = (y 0).val) (h1 : (x 1).val = (y 1).val) (h2 : (x 2).val = (y 2).val) : x = y :=
  funext fun a => Fin.ext <| match a with | ⟨0, _⟩ => h0 | ⟨1, _⟩ => h1 | ⟨2, _⟩ => h2

/-! ## Elements that agree -/

section Agree
variable {x0 x1 : ℕ}

theorem agree_w {a : ℕ} {y : S4096x512.Idx} {i : S2x2048x512.Idx} (y0 : (y 0).val = 2048 * a + x0) (y1 : (y 1).val = 0 + x1)
    (i0 : (i 0).val = a) (i1 : (i 1).val = 0 + x0) (i2 : (i 2).val = 0 + x1) : wA m c y = wsF m c i :=
  congrArg (wA m c) (idx2_ext (y0.trans (by show _ = 2048 * (i 0).val + (i 1).val; omega)) (y1.trans i2.symm))
theorem agree_x {a : ℕ} {y : S1024x4096.Idx} {i : S2x512x4096.Idx} (y0 : (y 0).val = 512 * a + x0) (y1 : (y 1).val = 0 + x1)
    (i0 : (i 0).val = a) (i1 : (i 1).val = 0 + x0) (i2 : (i 2).val = 0 + x1) : xA m c y = xsF m c i :=
  congrArg (xA m c) (idx2_ext (y0.trans (by show _ = 512 * (i 0).val + (i 1).val; omega)) (y1.trans i2.symm))
theorem agree_wg {c' : Dev nD} {a a' r : ℕ} {i i' : S4x4096x512.Idx} (h : slabOf a c = slabOf a' c') (i0 : (i 0).val = a) (i1 : (i 1).val = r + x0) (i2 : (i 2).val = 0 + x1)
    (j0 : (i' 0).val = a') (j1 : (i' 1).val = r + x0) (j2 : (i' 2).val = 0 + x1) : wgF m c i = wgF m c' i' := by
  unfold wgF
  rw [i0, j0, h]
  exact congrArg (w8 m _) (idx2_ext (i1.trans j1.symm) (i2.trans j2.symm))
theorem agree_rs {c' : Dev nD} {t r : ℕ} {i i' : S3x1024x512.Idx} (h : resFrom t c' = c) (i0 : (i 0).val = t) (i1 : (i 1).val = r + x0) (i2 : (i 2).val = 0 + x1)
    (j0 : (i' 0).val = t) (j1 : (i' 1).val = r + x0) (j2 : (i' 2).val = 0 + x1) : rsF m c i = rrF m c' i' := by
  unfold rrF
  rw [j0, h]
  exact congrArg (rsF m c) (idx3_ext (i0.trans j0.symm) (i1.trans j1.symm) (i2.trans j2.symm))
theorem agree_o {d : Dev nD} {h : Fin 2} {r : ℕ} (hr : 1024 * d.val + 512 * h.val = r) {y : S4096x512.Idx} {i : S4x512x512.Idx} (i1 : (i 1).val = 0 + x0) (i2 : (i 2).val = 0 + x1)
    (y0 : (y 0).val = r + x0) (y1 : (y 1).val = 0 + x1) : osF m c d h i = outF m c y :=
  congrArg (outF m c) (idx2_ext (by show 1024 * d.val + 512 * h.val + (i 1).val = _; omega) (by show (i 2).val = _; omega))

end Agree

/-! ## Transfers within the device -/

section Local

def NwL : ℕ := (cc0_scratch3 : Ref sig .tc).dmaCredit S2048x512 .f32
def NxL : ℕ := (cc0_scratch2 : Ref sig .tc).dmaCredit S512x4096 .f32
def NoL : ℕ := (main_v1 : Ref sig .tc).dmaCredit S512x512 .f32

/-- A load of half the weights into staging slot `a`, in flight; of half the rows; -/
def wFly (j : Fin 4) (a r : ℕ) : sProp 𝕄 := Transfers.Flight EC (c : Thread nD τ) (.dma (loadS j)) () NwL iprop(wsP m c a ∗ wP m c r)
def xFly (j : Fin 4) (a r : ℕ) : sProp 𝕄 := Transfers.Flight EC (c : Thread nD τ) (.dma (loadS j)) () NxL iprop(xsP m c a ∗ xP m c r)
/-- a store of output slot `a` into its part of the result. -/
def oFly (j : Fin 4) (a : ℕ) (d : Dev nD) (h : Fin 2) : sProp 𝕄 :=
  Transfers.Flight EC (c : Thread nD τ) (.dma (outS j)) () NoL iprop(oP m c d h ∗ osP m c a d h)

theorem wload_start {α : Type} {Q : α → sProp 𝕄} {k : PUnit → Prog (TpuEff nD τ sig (Elt F) Λ₀ .tc) α} (j : Fin 4) (a r : ℕ) (hr : r = 2048 * a) {sem : DmaSem sig} (hs : sem = loadS j) {inb inb' sq h h' hsrc hdst hsem} :
    iprop(wP m c r ∗ wsE c a ∗ semVal ((c : Thread nD τ), .dma (loadS j)) 0)
      ⊢ iprop((wFly m c j a r -∗ wpc c (k ⟨⟩) Q)
        -∗ wpc c (.op (.enqueueDma ((Memref.whole main_arg1 : Memref sig .tc .hbm S4096x512 .f32).slice (Rect.unit (s := S4096x512) ![r, 0] S2048x512.size inb) h)
            (.here (((Memref.whole cc0_scratch3 : Memref sig .tc .vmem S2x2048x512 .f32).slice (Rect.unit (s := S2x2048x512) ![a, 0, 0] S1x2048x512.size inb') h').squeeze S2048x512 sq))
            (.dma sem) hsrc hdst hsem) k) Q) := by
  subst hr
  have e1 : ((Memref.whole main_arg1 : Memref sig .tc .hbm S4096x512 .f32).slice (Rect.unit (s := S4096x512) ![2048 * a, 0] S2048x512.size inb) h).view.set = wB (2048 * a) :=
    (View.set_slice_whole _ _).trans (unit_set _ _ inb)
  have e2 : (((Memref.whole cc0_scratch3 : Memref sig .tc .vmem S2x2048x512 .f32).slice (Rect.unit (s := S2x2048x512) ![a, 0, 0] S1x2048x512.size inb') h').squeeze S2048x512 sq).view.set = wsB a :=
    (View.set_reshape _ _).trans ((View.set_slice_whole _ _).trans (unit_set _ _ inb'))
  have := copy_start c (dst := (((Memref.whole cc0_scratch3 : Memref sig .tc .vmem S2x2048x512 .f32).slice (Rect.unit (s := S2x2048x512) ![a, 0, 0] S1x2048x512.size inb') h').squeeze S2048x512 sq))
    (hsrc := hsrc) (hdst := hdst) (hsem := hsem) (k := k) (Q := Q) hs (q := fullShare) (fs := wA m c) (N := NwL) (wsF m c) (show 0 < S2048x512.numel by decide) rfl (fun x => by
    obtain ⟨E0, E1, E2⟩ := emb_sq (a := 2) (b := 2048) (k := 512) (off := ![a, 0, 0]) inb' sq.numel_eq x
    exact agree_w m c (emb_un inb x 0) (emb_un inb x 1) E0 E1 E2)
  rw [e1, e2] at this
  exact this

theorem xload_start {α : Type} {Q : α → sProp 𝕄} {k : PUnit → Prog (TpuEff nD τ sig (Elt F) Λ₀ .tc) α} (j : Fin 4) (a r : ℕ) (hr : r = 512 * a) {sem : DmaSem sig} (hs : sem = loadS j) {inb inb' sq h h' hsrc hdst hsem} :
    iprop(xP m c r ∗ xsE c a ∗ semVal ((c : Thread nD τ), .dma (loadS j)) 0)
      ⊢ iprop((xFly m c j a r -∗ wpc c (k ⟨⟩) Q)
        -∗ wpc c (.op (.enqueueDma ((Memref.whole main_arg0 : Memref sig .tc .hbm S1024x4096 .f32).slice (Rect.unit (s := S1024x4096) ![r, 0] S512x4096.size inb) h)
            (.here (((Memref.whole cc0_scratch2 : Memref sig .tc .vmem S2x512x4096 .f32).slice (Rect.unit (s := S2x512x4096) ![a, 0, 0] S1x512x4096.size inb') h').squeeze S512x4096 sq))
            (.dma sem) hsrc hdst hsem) k) Q) := by
  subst hr
  have e1 : ((Memref.whole main_arg0 : Memref sig .tc .hbm S1024x4096 .f32).slice (Rect.unit (s := S1024x4096) ![512 * a, 0] S512x4096.size inb) h).view.set = x8B (512 * a) :=
    (View.set_slice_whole _ _).trans (unit_set _ _ inb)
  have e2 : (((Memref.whole cc0_scratch2 : Memref sig .tc .vmem S2x512x4096 .f32).slice (Rect.unit (s := S2x512x4096) ![a, 0, 0] S1x512x4096.size inb') h').squeeze S512x4096 sq).view.set = xsB a :=
    (View.set_reshape _ _).trans ((View.set_slice_whole _ _).trans (unit_set _ _ inb'))
  have := copy_start c (dst := (((Memref.whole cc0_scratch2 : Memref sig .tc .vmem S2x512x4096 .f32).slice (Rect.unit (s := S2x512x4096) ![a, 0, 0] S1x512x4096.size inb') h').squeeze S512x4096 sq))
    (hsrc := hsrc) (hdst := hdst) (hsem := hsem) (k := k) (Q := Q) hs (q := fullShare) (fs := xA m c) (N := NxL) (xsF m c) (show 0 < S512x4096.numel by decide) rfl (fun x => by
    obtain ⟨E0, E1, E2⟩ := emb_sq (a := 2) (b := 512) (k := 4096) (off := ![a, 0, 0]) inb' sq.numel_eq x
    exact agree_x m c (emb_un inb x 0) (emb_un inb x 1) E0 E1 E2)
  rw [e1, e2] at this
  exact this

theorem result_credit (v : View sig .tc .hbm S512x512 .f32) (h : v.buf = main_v1.idx) : v.dmaCredit = NoL := by
  show sig.dmaCredit _ _ _ _ _ = sig.dmaCredit _ _ _ _ _
  rw [h]
theorem out_credit {off : Fin 2 → ℕ} {inb h} : ((Memref.whole main_v1 : Memref sig .tc .hbm S4096x512 .f32).slice (Rect.unit (s := S4096x512) off S512x512.size inb) h).view.dmaCredit = NoL := result_credit _ rfl

/-- Output slot `a` and the part of the result at row `r` agree element by element, for contents that agree at equal coordinates. -/
theorem out_val (a r : ℕ) (f : S4x512x512.Idx → Elt F .f32) (g : S4096x512.Idx → Elt F .f32)
    (hfg : ∀ (x0 x1 : ℕ) (i : S4x512x512.Idx) (y : S4096x512.Idx), (i 1).val = 0 + x0 → (i 2).val = 0 + x1 → (y 0).val = r + x0 → (y 1).val = 0 + x1 → f i = g y)
    {inb inb' sq h h'} (x : S512x512.Idx) :
    (((Memref.whole cc0_scratch6 : Memref sig .tc .vmem S4x512x512 .f32).slice (Rect.unit (s := S4x512x512) ![a, 0, 0] S1x512x512.size inb') h').squeeze S512x512 sq).view.read (Elt F) f x
      = ((Memref.whole main_v1 : Memref sig .tc .hbm S4096x512 .f32).slice (Rect.unit (s := S4096x512) ![r, 0] S512x512.size inb) h).view.read (Elt F) g x := by
  obtain ⟨E0, E1, E2⟩ := emb_sq (a := 4) (b := 512) (k := 512) (off := ![a, 0, 0]) inb' sq.numel_eq x
  exact hfg _ _ _ _ E1 E2 (emb_un inb x 0) (emb_un inb x 1)

theorem out_copy {α : Type} {Q : α → sProp 𝕄} {k : PUnit → Prog (TpuEff nD τ sig (Elt F) Λ₀ .tc) α} (j : Fin 4) (a r : ℕ) (f : S4x512x512.Idx → Elt F .f32) (g : S4096x512.Idx → Elt F .f32)
    (hfg : ∀ (x0 x1 : ℕ) (i : S4x512x512.Idx) (y : S4096x512.Idx), (i 1).val = 0 + x0 → (i 2).val = 0 + x1 → (y 0).val = r + x0 → (y 1).val = 0 + x1 → f i = g y)
    {off : Fin 2 → ℕ} (ho : off = ![r, 0]) {sem : DmaSem sig} (hs : sem = outS j) {inb inb' sq h h' hsrc hdst hsem} :
    iprop((osL c ↦[osB a]{fullShare} f) ∗ (∃ f : Buf (Elt F) (oL c), oL c ↦[oB r]{fullShare} f) ∗ semVal ((c : Thread nD τ), .dma (outS j)) 0)
      ⊢ iprop((Transfers.Flight EC (c : Thread nD τ) (.dma (outS j)) () NoL iprop((oL c ↦[oB r]{fullShare} g) ∗ (osL c ↦[osB a]{fullShare} f)) -∗ wpc c (k ⟨⟩) Q)
        -∗ wpc c (.op (.enqueueDma (((Memref.whole cc0_scratch6 : Memref sig .tc .vmem S4x512x512 .f32).slice (Rect.unit (s := S4x512x512) ![a, 0, 0] S1x512x512.size inb') h').squeeze S512x512 sq)
            (.here ((Memref.whole main_v1 : Memref sig .tc .hbm S4096x512 .f32).slice (Rect.unit (s := S4096x512) off S512x512.size inb) h))
            (.dma sem) hsrc hdst hsem) k) Q) := by
  subst ho
  have e1 : ((Memref.whole main_v1 : Memref sig .tc .hbm S4096x512 .f32).slice (Rect.unit (s := S4096x512) ![r, 0] S512x512.size inb) h).view.set = oB r :=
    (View.set_slice_whole _ _).trans (unit_set _ _ inb)
  have e2 : (((Memref.whole cc0_scratch6 : Memref sig .tc .vmem S4x512x512 .f32).slice (Rect.unit (s := S4x512x512) ![a, 0, 0] S1x512x512.size inb') h').squeeze S512x512 sq).view.set = osB a :=
    (View.set_reshape _ _).trans ((View.set_slice_whole _ _).trans (unit_set _ _ inb'))
  have := copy_start c (dst := ((Memref.whole main_v1 : Memref sig .tc .hbm S4096x512 .f32).slice (Rect.unit (s := S4096x512) ![r, 0] S512x512.size inb) h))
    (hsrc := hsrc) (hdst := hdst) (hsem := hsem) (k := k) (Q := Q) hs (q := fullShare) (fs := f) (N := NoL) g (show 0 < S512x512.numel by decide) out_credit
    (out_val a r _ _ hfg)
  rw [e1, e2] at this
  exact this

theorem out_start {α : Type} {Q : α → sProp 𝕄} {k : PUnit → Prog (TpuEff nD τ sig (Elt F) Λ₀ .tc) α} (j : Fin 4) (a : ℕ) (d : Dev nD) (hh : Fin 2) {off : Fin 2 → ℕ} (ho : off = ![1024 * d.val + 512 * hh.val, 0])
    {sem : DmaSem sig} (hs : sem = outS j) {inb inb' sq h h' hsrc hdst hsem} :
    iprop(osP m c a d hh ∗ oE c d hh ∗ semVal ((c : Thread nD τ), .dma (outS j)) 0)
      ⊢ iprop((oFly m c j a d hh -∗ wpc c (k ⟨⟩) Q)
        -∗ wpc c (.op (.enqueueDma (((Memref.whole cc0_scratch6 : Memref sig .tc .vmem S4x512x512 .f32).slice (Rect.unit (s := S4x512x512) ![a, 0, 0] S1x512x512.size inb') h').squeeze S512x512 sq)
            (.here ((Memref.whole main_v1 : Memref sig .tc .hbm S4096x512 .f32).slice (Rect.unit (s := S4096x512) off S512x512.size inb) h))
            (.dma sem) hsrc hdst hsem) k) Q) :=
  out_copy c j a (1024 * d.val + 512 * hh.val) (osF m c d hh) (outF m c) (fun _ _ _ _ => agree_o m c rfl) ho hs

/-! ## Transfers to another device -/

theorem wg_send {α : Type} {Q : α → sProp 𝕄} {k : PUnit → Prog (TpuEff nD τ sig (Elt F) Λ₀ .tc) α} (s : Fin 12) (l : List (Fin 12)) (a a' r : ℕ) (q : PosShare TreeShare) {n : Dev nD} (hn : n = tgt s c)
    (h6 : s.val < 6) (hslab : slabOf a c = slabOf a' (tgt s c)) (hsnd : wgP m c a r q = sendPay m c s) (hrcv : wgP m (tgt s c) a' r fullShare = landPay m (tgt s c) s)
    {sS sR : DmaSem sig} (hS : sS = sendS s) (hR : sR = recvS s) {inb inb' sq h h' sq' hsc hsrc hdst hsem} :
    iprop(ctx m K ∗ wgP m c a r q ∗ wgE (tgt s c) a' r ∗ ride (tgt s c) s ∗ sReady c s ∗ OW c (s :: l))
      ⊢ iprop((iprop(sFly c s ∗ OW c l) -∗ wpc c (k ⟨⟩) Q)
        -∗ wpc c (.op (.enqueueDma (((Memref.whole cc0_scratch0 : Memref sig .tc .vmem S4x4096x512 .fp8e4m3).slice (Rect.unit (s := S4x4096x512) ![a, r, 0] S1x2048x512.size inb) h).squeeze S2048x512 sq)
            (.remote (Dev.tc n : Thread nD τ) (((Memref.whole cc0_scratch0 : Memref sig .tc .vmem S4x4096x512 .fp8e4m3).slice (Rect.unit (s := S4x4096x512) ![a', r, 0] S1x2048x512.size inb') h').squeeze S2048x512 sq') (.dma sS) hsc)
            (.dma sR) hsrc hdst hsem) k) Q) := by
  have e (a : ℕ) (inb) (h) (sq) : (((Memref.whole cc0_scratch0 : Memref sig .tc .vmem S4x4096x512 .fp8e4m3).slice (Rect.unit (s := S4x4096x512) ![a, r, 0] S1x2048x512.size inb) h).squeeze S2048x512 sq).view.set = wgB a r :=
    (View.set_reshape _ _).trans ((View.set_slice_whole _ _).trans (unit_set _ _ inb))
  have := send_step m K c s l (hsc := hsc) (hsrc := hsrc) (hdst := hdst) (hsem := hsem) (k := k) (Q := Q) hn hS hR (by unfold NN; rw [if_pos h6]; rfl) (q := q) (fs := wgF m c) (wgF m (tgt s c))
    (by rw [e, ← hsnd]; exact Entails.refl _) (by rw [e, ← hrcv]; exact Entails.refl _) (fun x => by
      obtain ⟨E0, E1, E2⟩ := emb_sq (a := 4) (b := 4096) (k := 512) (off := ![a, r, 0]) inb sq.numel_eq x
      obtain ⟨G0, G1, G2⟩ := emb_sq (a := 4) (b := 4096) (k := 512) (off := ![a', r, 0]) inb' sq'.numel_eq x
      exact agree_wg m c hslab E0 E1 E2 G0 G1 G2)
  rw [e, e] at this
  exact this

theorem rs_send {α : Type} {Q : α → sProp 𝕄} {k : PUnit → Prog (TpuEff nD τ sig (Elt F) Λ₀ .tc) α} (s : Fin 12) (l : List (Fin 12)) (t r : ℕ) {n : Dev nD} (hn : n = tgt s c)
    (h6 : ¬ s.val < 6) (hfrom : resFrom t (tgt s c) = c) (hsnd : rsP m c t r = sendPay m c s) (hrcv : rrP m (tgt s c) t r = landPay m (tgt s c) s)
    (hride : ride (F := F) (tgt s c) s = iprop(emp))
    {sS sR : DmaSem sig} (hS : sS = sendS s) (hR : sR = recvS s) {inb inb' sq h h' sq' hsc hsrc hdst hsem} :
    iprop(ctx m K ∗ rsP m c t r ∗ rrE (tgt s c) t r ∗ sReady c s ∗ OW c (s :: l))
      ⊢ iprop((iprop(sFly c s ∗ OW c l) -∗ wpc c (k ⟨⟩) Q)
        -∗ wpc c (.op (.enqueueDma (((Memref.whole cc0_scratch4 : Memref sig .tc .vmem S3x1024x512 .bf16).slice (Rect.unit (s := S3x1024x512) ![t, r, 0] S1x512x512.size inb) h).squeeze S512x512 sq)
            (.remote (Dev.tc n : Thread nD τ) (((Memref.whole cc0_scratch5 : Memref sig .tc .vmem S3x1024x512 .bf16).slice (Rect.unit (s := S3x1024x512) ![t, r, 0] S1x512x512.size inb') h').squeeze S512x512 sq') (.dma sS) hsc)
            (.dma sR) hsrc hdst hsem) k) Q) := by
  have e1 : (((Memref.whole cc0_scratch4 : Memref sig .tc .vmem S3x1024x512 .bf16).slice (Rect.unit (s := S3x1024x512) ![t, r, 0] S1x512x512.size inb) h).squeeze S512x512 sq).view.set = rB t r :=
    (View.set_reshape _ _).trans ((View.set_slice_whole _ _).trans (unit_set _ _ inb))
  have e2 : (((Memref.whole cc0_scratch5 : Memref sig .tc .vmem S3x1024x512 .bf16).slice (Rect.unit (s := S3x1024x512) ![t, r, 0] S1x512x512.size inb') h').squeeze S512x512 sq').view.set = rB t r :=
    (View.set_reshape _ _).trans ((View.set_slice_whole _ _).trans (unit_set _ _ inb'))
  have := send_step m K c s l (hsc := hsc) (hsrc := hsrc) (hdst := hdst) (hsem := hsem) (k := k) (Q := Q) hn hS hR (by unfold NN; rw [if_neg h6]; rfl) (q := fullShare) (fs := rsF m c) (rrF m (tgt s c))
    (by rw [e1, ← hsnd]; exact Entails.refl _) (by rw [e2, ← hrcv]; exact Entails.refl _) (fun x => by
      obtain ⟨E0, E1, E2⟩ := emb_sq (a := 3) (b := 1024) (k := 512) (off := ![t, r, 0]) inb sq.numel_eq x
      obtain ⟨G0, G1, G2⟩ := emb_sq (a := 3) (b := 1024) (k := 512) (off := ![t, r, 0]) inb' sq'.numel_eq x
      exact agree_rs m c hfrom E0 E1 E2 G0 G1 G2)
  rw [e1, e2, hride] at this
  refine BIBase.Entails.trans ?_ this
  iintro ⟨#Hc, H1, H2, H3, H4⟩
  isplitr; · iexact Hc
  isplitl [H1]; · unfold rsP; iexact H1
  isplitl [H2]; · unfold rrE; iexact H2
  isplitr; · iempintro
  isplitl [H3] <;> iassumption

end Local

end Cert.KProof

end
-- ==== Proof.Mem.lean ====
/-
  The kernel's loads and stores, at the regions they touch, and what its computed blocks are.
-/
module

public import proofs.«01_k».proof.Proof.Views

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem setOn_whole (b : Ref sig .tc) (R : Rect b.ty.shape) : (View.whole b).setOn R.toLoadRect.set = R.toLoadRect.set :=
  (View.set_slice _ _).symm.trans (View.set_slice_whole b R)

/-- A store through a rectangle of a whole buffer, element by element. -/
theorem land_whole {b : Ref sig .tc} (R : Rect b.ty.shape) (w : R.shape.Idx → Elt F b.ty.elt) (f G : b.ty.Contents (Elt F))
    (hw : ∀ x, w x = G (R.emb x)) (S : Finset b.ty.shape.Idx) (hS : R.set = S) :
    ∀ i ∈ S, ((View.whole b).slice R).write (Elt F) f w Finset.univ i = G i := by
  subst hS
  intro i hi
  obtain ⟨x, rfl⟩ : ∃ x, R.emb x = i := by
    rw [← View.set_slice_whole b R] at hi
    unfold View.set at hi
    obtain ⟨x, _, hx⟩ := Finset.mem_map.mp hi
    exact ⟨x, hx⟩
  have := View.write_emb_of_mem (v := (View.whole b).slice R) (Val := Elt F) (f := f) (w := w) (h := Finset.mem_univ x)
  exact this.trans (hw x)

/-! ## Any load, any store -/

section Any
variable {sp : CoreSpace} {s : Shape} {e : EltTy} (r : Memref sig .tc (.core sp) s e) (R : Rect s)
  {S : Finset r.view.ty.shape.Idx}

/-- A load reads what its region holds; -/
theorem load_at {α : Type} {Q : α → sProp 𝕄} (hS : r.view.setOn R.toLoadRect.set = S) (q : PosShare TreeShare) (G : Buf (Elt F) (r.view.loc (c : Thread nD τ))) {hl}
    {k : (R.shape.Idx → Elt F e) → Prog (TpuEff nD τ sig (Elt F) Λ₀ .tc) α} :
    (r.view.loc (c : Thread nD τ) ↦[S]{q} G : sProp 𝕄)
      ⊢ iprop(((r.view.loc (c : Thread nD τ) ↦[S]{q} G) -∗ wpc c (k (r.view.readAt (Elt F) R.toLoadRect G)) Q)
        -∗ wpc c (.op (.load r R.toLoadRect hl) k) Q) :=
  wp_load 𝒱₀ (c : Thread nD τ) none Set.univ (m := r) (r := R.toLoadRect) (hl := hl) (k := k) (Q := Q) (f := G) hS.subset

/-- whatever it is; -/
theorem load_any {α : Type} {Q : α → sProp 𝕄} (hS : r.view.setOn R.toLoadRect.set = S) {hl}
    {k : (R.shape.Idx → Elt F e) → Prog (TpuEff nD τ sig (Elt F) Λ₀ .tc) α} :
    iprop(∃ f, (r.view.loc (c : Thread nD τ) ↦[S]{fullShare} f : sProp 𝕄))
      ⊢ iprop((∀ v, iprop(∃ f, (r.view.loc (c : Thread nD τ) ↦[S]{fullShare} f)) -∗ wpc c (k v) Q)
        -∗ wpc c (.op (.load r R.toLoadRect hl) k) Q) := by
  iintro ⟨%f, Hp⟩ Hk
  iapply (load_at c r R hS fullShare f) $$ Hp
  iintro Hp
  iapply Hk
  iexists f; iexact Hp

/-- and after a store the region holds what was stored. -/
theorem store_at {α : Type} {Q : α → sProp 𝕄} (hS : (r.access R).setOn Finset.univ = S) (G : Buf (Elt F) (r.view.loc (c : Thread nD τ))) {w : R.shape.Idx → Elt F e}
    (hw : ∀ f, ∀ i ∈ S, (r.access R).write (Elt F) f w Finset.univ i = G i) {hx hm}
    {k : PUnit → Prog (TpuEff nD τ sig (Elt F) Λ₀ .tc) α} :
    iprop(∃ f, (r.view.loc (c : Thread nD τ) ↦[S]{fullShare} f : sProp 𝕄))
      ⊢ iprop(((r.view.loc (c : Thread nD τ) ↦[S]{fullShare} G) -∗ wpc c (k ⟨⟩) Q)
        -∗ wpc c (.op (.store r R w Finset.univ hx hm) k) Q) := by
  iintro ⟨%f, Hp⟩ Hk
  iapply (wp_store 𝒱₀ (c : Thread nD τ) none Set.univ (m := r) hS.subset) $$ Hp
  iintro Hp
  iapply Hk
  have e : (r.view.loc (c : Thread nD τ) ↦[S]{fullShare} (r.access R).write (Elt F) f w Finset.univ : sProp 𝕄)
      = (r.view.loc (c : Thread nD τ) ↦[S]{fullShare} G) := pointsTo_congr (hw f)
  rw [← e]
  iexact Hp
end Any

/-! ## Loads -/

/-- Of a whole slab of weights; -/
theorem ld_wgS {α : Type} {Q : α → sProp 𝕄} (s : ℕ) (q : PosShare TreeShare) {inb hl} {k : (S1x4096x512.Idx → Elt F .fp8e4m3) → Prog (TpuEff nD τ sig (Elt F) Λ₀ .tc) α} :
    wgS m c s q ⊢ iprop((wgS m c s q -∗ wpc c (k fun x => wgF m c ((Rect.unit (s := S4x4096x512) ![s, 0, 0] S1x4096x512.size inb).emb x)) Q)
      -∗ wpc c (.op (.load (Memref.whole cc0_scratch0 : Memref sig .tc .vmem S4x4096x512 .fp8e4m3) (Rect.unit (s := S4x4096x512) ![s, 0, 0] S1x4096x512.size inb).toLoadRect hl) k) Q) := by
  unfold wgS
  exact load_at c (Memref.whole cc0_scratch0) _ ((setOn_whole _ _).trans (unit_set _ _ inb)) q (wgF m c)

/-- of half the rows; -/
theorem ld_x8 {α : Type} {Q : α → sProp 𝕄} (r : ℕ) {inb hl} {k : (S512x4096.Idx → Elt F .fp8e4m3) → Prog (TpuEff nD τ sig (Elt F) Λ₀ .tc) α} :
    x8P m c r ⊢ iprop((x8P m c r -∗ wpc c (k fun x => x8 m c ((Rect.unit (s := S1024x4096) ![r, 0] S512x4096.size inb).emb x)) Q)
      -∗ wpc c (.op (.load (Memref.whole cc0_scratch1 : Memref sig .tc .vmem S1024x4096 .fp8e4m3) (Rect.unit (s := S1024x4096) ![r, 0] S512x4096.size inb).toLoadRect hl) k) Q) := by
  unfold x8P
  exact load_at c (Memref.whole cc0_scratch1) _ ((setOn_whole _ _).trans (unit_set _ _ inb)) fullShare (x8 m c)

/-- of a staging slot; -/
theorem ld_xs {α : Type} {Q : α → sProp 𝕄} (a : ℕ) {inb hl} {k : (S1x512x4096.Idx → Elt F .f32) → Prog (TpuEff nD τ sig (Elt F) Λ₀ .tc) α} :
    xsP m c a ⊢ iprop((xsP m c a -∗ wpc c (k fun x => xsF m c ((Rect.unit (s := S2x512x4096) ![a, 0, 0] S1x512x4096.size inb).emb x)) Q)
      -∗ wpc c (.op (.load (Memref.whole cc0_scratch2 : Memref sig .tc .vmem S2x512x4096 .f32) (Rect.unit (s := S2x512x4096) ![a, 0, 0] S1x512x4096.size inb).toLoadRect hl) k) Q) := by
  unfold xsP
  exact load_at c (Memref.whole cc0_scratch2) _ ((setOn_whole _ _).trans (unit_set _ _ inb)) fullShare (xsF m c)

/-- of the other; -/
theorem ld_ws {α : Type} {Q : α → sProp 𝕄} (a : ℕ) {inb hl} {k : (S1x2048x512.Idx → Elt F .f32) → Prog (TpuEff nD τ sig (Elt F) Λ₀ .tc) α} :
    wsP m c a ⊢ iprop((wsP m c a -∗ wpc c (k fun x => wsF m c ((Rect.unit (s := S2x2048x512) ![a, 0, 0] S1x2048x512.size inb).emb x)) Q)
      -∗ wpc c (.op (.load (Memref.whole cc0_scratch3 : Memref sig .tc .vmem S2x2048x512 .f32) (Rect.unit (s := S2x2048x512) ![a, 0, 0] S1x2048x512.size inb).toLoadRect hl) k) Q) := by
  unfold wsP
  exact load_at c (Memref.whole cc0_scratch3) _ ((setOn_whole _ _).trans (unit_set _ _ inb)) fullShare (wsF m c)

/-- of a received block. -/
theorem ld_rr {α : Type} {Q : α → sProp 𝕄} (t r : ℕ) {inb hl} {k : (S1x512x512.Idx → Elt F .bf16) → Prog (TpuEff nD τ sig (Elt F) Λ₀ .tc) α} :
    rrP m c t r ⊢ iprop((rrP m c t r -∗ wpc c (k fun x => rrF m c ((Rect.unit (s := S3x1024x512) ![t, r, 0] S1x512x512.size inb).emb x)) Q)
      -∗ wpc c (.op (.load (Memref.whole cc0_scratch5 : Memref sig .tc .vmem S3x1024x512 .bf16) (Rect.unit (s := S3x1024x512) ![t, r, 0] S1x512x512.size inb).toLoadRect hl) k) Q) := by
  unfold rrP
  exact load_at c (Memref.whole cc0_scratch5) _ ((setOn_whole _ _).trans (unit_set _ _ inb)) fullShare (rrF m c)

/-! ## Loads whose value is not used -/

/-- Before a store of weights; -/
theorem ldE_wg {α : Type} {Q : α → sProp 𝕄} (s r : ℕ) {inb hl} {k : (S1x2048x512.Idx → Elt F .fp8e4m3) → Prog (TpuEff nD τ sig (Elt F) Λ₀ .tc) α} :
    wgE (F := F) c s r ⊢ iprop((∀ v, wgE (F := F) c s r -∗ wpc c (k v) Q)
      -∗ wpc c (.op (.load (Memref.whole cc0_scratch0 : Memref sig .tc .vmem S4x4096x512 .fp8e4m3) (Rect.unit (s := S4x4096x512) ![s, r, 0] S1x2048x512.size inb).toLoadRect hl) k) Q) := by
  unfold wgE
  exact load_any (F := F) c (Memref.whole cc0_scratch0) _ ((setOn_whole _ _).trans (unit_set _ _ inb))

/-- of rows; -/
theorem ldE_x8 {α : Type} {Q : α → sProp 𝕄} (r : ℕ) {inb hl} {k : (S512x4096.Idx → Elt F .fp8e4m3) → Prog (TpuEff nD τ sig (Elt F) Λ₀ .tc) α} :
    x8E (F := F) c r ⊢ iprop((∀ v, x8E (F := F) c r -∗ wpc c (k v) Q)
      -∗ wpc c (.op (.load (Memref.whole cc0_scratch1 : Memref sig .tc .vmem S1024x4096 .fp8e4m3) (Rect.unit (s := S1024x4096) ![r, 0] S512x4096.size inb).toLoadRect hl) k) Q) := by
  unfold x8E
  exact load_any (F := F) c (Memref.whole cc0_scratch1) _ ((setOn_whole _ _).trans (unit_set _ _ inb))

/-- of a block to send; -/
theorem ldE_rs {α : Type} {Q : α → sProp 𝕄} (t r : ℕ) {inb hl} {k : (S1x512x512.Idx → Elt F .bf16) → Prog (TpuEff nD τ sig (Elt F) Λ₀ .tc) α} :
    rsE (F := F) c t r ⊢ iprop((∀ v, rsE (F := F) c t r -∗ wpc c (k v) Q)
      -∗ wpc c (.op (.load (Memref.whole cc0_scratch4 : Memref sig .tc .vmem S3x1024x512 .bf16) (Rect.unit (s := S3x1024x512) ![t, r, 0] S1x512x512.size inb).toLoadRect hl) k) Q) := by
  unfold rsE
  exact load_any (F := F) c (Memref.whole cc0_scratch4) _ ((setOn_whole _ _).trans (unit_set _ _ inb))

/-- of a block to put out. -/
theorem ldE_os {α : Type} {Q : α → sProp 𝕄} (a : ℕ) {inb hl} {k : (S1x512x512.Idx → Elt F .f32) → Prog (TpuEff nD τ sig (Elt F) Λ₀ .tc) α} :
    osE (F := F) c a ⊢ iprop((∀ v, osE (F := F) c a -∗ wpc c (k v) Q)
      -∗ wpc c (.op (.load (Memref.whole cc0_scratch6 : Memref sig .tc .vmem S4x512x512 .f32) (Rect.unit (s := S4x512x512) ![a, 0, 0] S1x512x512.size inb).toLoadRect hl) k) Q) := by
  unfold osE
  exact load_any (F := F) c (Memref.whole cc0_scratch6) _ ((setOn_whole _ _).trans (unit_set _ _ inb))

/-! ## Stores -/

/-- Of weights; -/
theorem st_wg {α : Type} {Q : α → sProp 𝕄} (s r : ℕ) {inb hx hm} {w : S1x2048x512.Idx → Elt F .fp8e4m3}
    (hw : ∀ x, w x = wgF m c ((Rect.unit (s := S4x4096x512) ![s, r, 0] S1x2048x512.size inb).emb x)) {k : PUnit → Prog (TpuEff nD τ sig (Elt F) Λ₀ .tc) α} :
    wgE (F := F) c s r ⊢ iprop((wgP m c s r fullShare -∗ wpc c (k ⟨⟩) Q)
      -∗ wpc c (.op (.store (Memref.whole cc0_scratch0 : Memref sig .tc .vmem S4x4096x512 .fp8e4m3) (Rect.unit (s := S4x4096x512) ![s, r, 0] S1x2048x512.size inb) w Finset.univ hx hm) k) Q) := by
  unfold wgE wgP
  exact store_at c (Memref.whole cc0_scratch0) (Rect.unit (s := S4x4096x512) ![s, r, 0] S1x2048x512.size inb) (S := bx ![s, r, 0] S1x2048x512.size) ((View.set_slice_whole cc0_scratch0 (Rect.unit (s := S4x4096x512) ![s, r, 0] S1x2048x512.size inb)).trans (unit_set _ _ inb)) (wgF m c) (fun f => land_whole (b := cc0_scratch0) (Rect.unit (s := S4x4096x512) ![s, r, 0] S1x2048x512.size inb) w f (wgF m c) hw _ (unit_set _ _ inb))

/-- of rows; -/
theorem st_x8 {α : Type} {Q : α → sProp 𝕄} (r : ℕ) {inb hx hm} {w : S512x4096.Idx → Elt F .fp8e4m3}
    (hw : ∀ x, w x = x8 m c ((Rect.unit (s := S1024x4096) ![r, 0] S512x4096.size inb).emb x)) {k : PUnit → Prog (TpuEff nD τ sig (Elt F) Λ₀ .tc) α} :
    x8E (F := F) c r ⊢ iprop((x8P m c r -∗ wpc c (k ⟨⟩) Q)
      -∗ wpc c (.op (.store (Memref.whole cc0_scratch1 : Memref sig .tc .vmem S1024x4096 .fp8e4m3) (Rect.unit (s := S1024x4096) ![r, 0] S512x4096.size inb) w Finset.univ hx hm) k) Q) := by
  unfold x8E x8P
  exact store_at c (Memref.whole cc0_scratch1) (Rect.unit (s := S1024x4096) ![r, 0] S512x4096.size inb) (S := bx ![r, 0] S512x4096.size) ((View.set_slice_whole cc0_scratch1 (Rect.unit (s := S1024x4096) ![r, 0] S512x4096.size inb)).trans (unit_set _ _ inb)) (x8 m c) (fun f => land_whole (b := cc0_scratch1) (Rect.unit (s := S1024x4096) ![r, 0] S512x4096.size inb) w f (x8 m c) hw _ (unit_set _ _ inb))

/-- of a block to send; -/
theorem st_rs {α : Type} {Q : α → sProp 𝕄} (t r : ℕ) {inb hx hm} {w : S1x512x512.Idx → Elt F .bf16}
    (hw : ∀ x, w x = rsF m c ((Rect.unit (s := S3x1024x512) ![t, r, 0] S1x512x512.size inb).emb x)) {k : PUnit → Prog (TpuEff nD τ sig (Elt F) Λ₀ .tc) α} :
    rsE (F := F) c t r ⊢ iprop((rsP m c t r -∗ wpc c (k ⟨⟩) Q)
      -∗ wpc c (.op (.store (Memref.whole cc0_scratch4 : Memref sig .tc .vmem S3x1024x512 .bf16) (Rect.unit (s := S3x1024x512) ![t, r, 0] S1x512x512.size inb) w Finset.univ hx hm) k) Q) := by
  unfold rsE rsP
  exact store_at c (Memref.whole cc0_scratch4) (Rect.unit (s := S3x1024x512) ![t, r, 0] S1x512x512.size inb) (S := bx ![t, r, 0] S1x512x512.size) ((View.set_slice_whole cc0_scratch4 (Rect.unit (s := S3x1024x512) ![t, r, 0] S1x512x512.size inb)).trans (unit_set _ _ inb)) (rsF m c) (fun f => land_whole (b := cc0_scratch4) (Rect.unit (s := S3x1024x512) ![t, r, 0] S1x512x512.size inb) w f (rsF m c) hw _ (unit_set _ _ inb))

/-- of a block to put out. -/
theorem st_os {α : Type} {Q : α → sProp 𝕄} (a : ℕ) (d : Dev nD) (h : Fin 2) {inb hx hm} {w : S1x512x512.Idx → Elt F .f32}
    (hw : ∀ x, w x = osF m c d h ((Rect.unit (s := S4x512x512) ![a, 0, 0] S1x512x512.size inb).emb x)) {k : PUnit → Prog (TpuEff nD τ sig (Elt F) Λ₀ .tc) α} :
    osE (F := F) c a ⊢ iprop((osP m c a d h -∗ wpc c (k ⟨⟩) Q)
      -∗ wpc c (.op (.store (Memref.whole cc0_scratch6 : Memref sig .tc .vmem S4x512x512 .f32) (Rect.unit (s := S4x512x512) ![a, 0, 0] S1x512x512.size inb) w Finset.univ hx hm) k) Q) := by
  unfold osE osP
  exact store_at c (Memref.whole cc0_scratch6) (Rect.unit (s := S4x512x512) ![a, 0, 0] S1x512x512.size inb) (S := bx ![a, 0, 0] S1x512x512.size) ((View.set_slice_whole cc0_scratch6 (Rect.unit (s := S4x512x512) ![a, 0, 0] S1x512x512.size inb)).trans (unit_set _ _ inb)) (osF m c d h) (fun f => land_whole (b := cc0_scratch6) (Rect.unit (s := S4x512x512) ![a, 0, 0] S1x512x512.size inb) w f (osF m c d h) hw _ (unit_set _ _ inb))

end Cert.KProof

end
-- ==== Proof.Blocks.lean ====
/-
  What the kernel computes from what it loads, block by block: each of its stored values is the value its region is to
  hold.
-/
module

public import proofs.«01_k».proof.Proof.Mem
public import Idealize.ShloMosaic.Lib.Pipeline.Value
public import Idealize.ShloMosaic.Lib.Pointwise.Reshape

@[expose] public section

noncomputable section

namespace Cert.KProof

open Cert.KernelIdeal Cert.KernelIdeal.Gen

open Idealize.ShloMosaic
open Idealize.ShloMosaic.TcCoe

variable {F : FTy → Type} [FloatOps F]

variable (m : (ℓ : Loc nD τ sig) → Buf (Elt F) ℓ) (c : Dev nD)

/-! ## The loaded operands -/

theorem xh_eq (h : Fin 2) (r : ℕ) (hr : r = 512 * h.val) (inb) :
    (fun x => x8 m c ((Rect.unit (s := S1024x4096) ![r, 0] S512x4096.size inb).emb x)) = xH m c h := by
  subst hr
  funext x
  exact congrArg (x8 m c) (idx2_ext ((emb_un inb x 0).trans (by rfl)) ((emb_un inb x 1).trans (Nat.zero_add _)))

theorem slab_eq (s : ℕ) (inb) (hc) :
    shapeCast S4096x512 (fun x => wgF m c ((Rect.unit (s := S4x4096x512) ![s, 0, 0] S1x4096x512.size inb).emb x)) hc = w8 m (slabOf s c) := by
  funext j
  obtain ⟨E0, E1, E2⟩ := emb_sq (a := 4) (b := 4096) (k := 512) (off := ![s, 0, 0]) inb hc j
  show w8 m (slabOf _ c) _ = _
  rw [show slabOf _ c = slabOf s c from congrArg (slabOf · c) E0]
  exact congrArg (w8 m _) (idx2_ext (E1.trans (Nat.zero_add _)) (E2.trans (Nat.zero_add _)))

/-- A block viewed with a leading unit axis, at an element. -/
theorem addUnit {α : Type} (g : S512x512.Idx → α) (hc) (x : S1x512x512.Idx) :
    shapeCast S1x512x512 g hc x = g (i2 (d := ![512, 512]) (x 1) (x 2)) :=
  (shapeCast_addUnit_apply ![512, 512] g hc x).trans (congrArg g (idx2_ext rfl rfl))

/-! ## The narrowed arguments -/

theorem put_w (a : ℕ) (r : ℕ) (hr : r = 2048 * a) (inb inb') (x : S1x2048x512.Idx) :
    k0_pay1 (fun x => wsF m c ((Rect.unit (s := S2x2048x512) ![a, 0, 0] S1x2048x512.size inb).emb x)) x
      = wgF m c ((Rect.unit (s := S4x4096x512) ![0, r, 0] S1x2048x512.size inb').emb x) := by
  subst hr
  unfold k0_pay1
  show truncf (s := S1x2048x512) .fp8e4m3 (shapeCast S1x2048x512 (shapeCast S2048x512 (fun x => wsF m c ((Rect.unit (s := S2x2048x512) ![a, 0, 0] S1x2048x512.size inb).emb x)) _) _) bitsLt_fp8e4m3_f32 x = _
  rw [shapeCast_comp, shapeCast_id (s := S1x2048x512)]
  have h0 : (x 0).val = 0 := by have : (x 0).val < 1 := (x 0).isLt; omega
  have E0 := emb_un inb x 0
  have E1 := emb_un inb x 1
  have E2 := emb_un inb x 2
  have G0 := emb_un inb' x 0
  have G1 := emb_un inb' x 1
  have G2 := emb_un inb' x 2
  unfold wgF
  rw [show slabOf _ c = slabOf 0 c from congrArg (slabOf · c) (G0.trans (by rw [h0]; rfl))]
  have e := agree_w m c (x0 := (x 1).val) (x1 := (x 2).val) (a := a) (y := fun k => ((Rect.unit (s := S4x4096x512) ![0, 2048 * a, 0] S1x2048x512.size inb').emb x) k.succ)
    G1 G2 (E0.trans (by rw [h0]; rfl)) E1 E2
  exact congrArg (FloatOps.truncf (F := F) (φ := .f32) .fp8e4m3 bitsLt_fp8e4m3_f32) e.symm

theorem put_x (a : ℕ) (r : ℕ) (hr : r = 512 * a) (inb inb') (x : S512x4096.Idx) :
    k0_pay5 (fun x => xsF m c ((Rect.unit (s := S2x512x4096) ![a, 0, 0] S1x512x4096.size inb).emb x)) x
      = x8 m c ((Rect.unit (s := S1024x4096) ![r, 0] S512x4096.size inb').emb x) := by
  subst hr
  unfold k0_pay5
  show shapeCast S512x4096 (truncf (s := S512x4096) .fp8e4m3 (shapeCast S512x4096 (fun x => xsF m c ((Rect.unit (s := S2x512x4096) ![a, 0, 0] S1x512x4096.size inb).emb x)) _) bitsLt_fp8e4m3_f32) _ x = _
  rw [shapeCast_id]
  obtain ⟨E0, E1, E2⟩ := emb_sq (a := 2) (b := 512) (k := 4096) (off := ![a, 0, 0]) inb shapeCasts_S1x512x4096_S512x4096 x
  have e := agree_x m c (x0 := (x 0).val) (x1 := (x 1).val) (a := a) (y := (Rect.unit (s := S1024x4096) ![512 * a, 0] S512x4096.size inb').emb x)
    (emb_un inb' x 0) (emb_un inb' x 1) E0 E1 E2
  exact congrArg (FloatOps.truncf (F := F) (φ := .f32) .fp8e4m3 bitsLt_fp8e4m3_f32) e.symm

/-! ## The result blocks -/

/-- The result at row `1024 d + 512 h + r`. -/
theorem outF_at (d : Dev nD) (h : Fin 2) (r k : Fin 512) (y : S4096x512.Idx) (y0 : (y 0).val = 1024 * d.val + 512 * h.val + r.val) (y1 : (y 1).val = k.val) :
    outF m c y = if d = c then yB m c c h (i2 (d := ![512, 512]) r k) else extf (s := S512x512) .f32 (yN m d c h) bitsLt_bf16_f32 (i2 (d := ![512, 512]) r k) := by
  have hd : d.val < 4 := d.isLt
  have hh := h.isLt
  have hr := r.isLt
  have e1 : ∀ p, (⟨(y 0).val / 1024, p⟩ : Dev nD) = d := fun p => Fin.ext (by show (y 0).val / 1024 = d.val; omega)
  have e2 : ∀ p, (⟨(y 0).val % 1024 / 512, p⟩ : Fin 2) = h := fun p => Fin.ext (by show (y 0).val % 1024 / 512 = h.val; omega)
  have e3 : ∀ p, i2 (d := ![512, 512]) ⟨(y 0).val % 512, p⟩ (y 1) = i2 (d := ![512, 512]) r k := fun p =>
    idx2_ext (by show (y 0).val % 512 = r.val; omega) y1
  unfold outF
  simp only [e1, e2]
  exact congrArg (fun j => if d = c then yB m c c h j else extf (s := S512x512) .f32 (yN m d c h) bitsLt_bf16_f32 j) (e3 _)

theorem rsF_at (t : ℕ) (h : Fin 2) (r k : Fin 512) (y : S3x1024x512.Idx) (y0 : (y 0).val = t) (y1 : (y 1).val = 512 * h.val + r.val) (y2 : (y 2).val = k.val) :
    rsF m c y = yN m c (resTo t c) h (i2 (d := ![512, 512]) r k) := by
  have hh := h.isLt
  have hr := r.isLt
  have e2 : ∀ p, (⟨(y 1).val / 512, p⟩ : Fin 2) = h := fun p => Fin.ext (by show (y 1).val / 512 = h.val; omega)
  have e3 : ∀ p, i2 (d := ![512, 512]) ⟨(y 1).val % 512, p⟩ (y 2) = i2 (d := ![512, 512]) r k := fun p =>
    idx2_ext (by show (y 1).val % 512 = r.val; omega) y2
  unfold rsF
  simp only [e2, y0]
  exact congrArg (yN m c (resTo t c) h) (e3 _)

/-- The own block in an output slot. -/
theorem put_own (h : Fin 2) (a : ℕ) (hc) (inb) (x : S1x512x512.Idx) :
    shapeCast S1x512x512 (blk (scl m c) (xH m c h) (w8 m c)) hc x = osF m c c h ((Rect.unit (s := S4x512x512) ![a, 0, 0] S1x512x512.size inb).emb x) := by
  rw [addUnit]
  have E1 := emb_un inb x 1
  have E2 := emb_un inb x 2
  unfold osF
  refine ((outF_at m c c h (x 1) (x 2) _ ?_ ?_).trans (if_pos rfl)).symm
  · show 1024 * c.val + 512 * h.val + _ = _
    exact congrArg (1024 * c.val + 512 * h.val + ·) (E1.trans (Nat.zero_add _))
  · exact E2.trans (Nat.zero_add _)

/-- A block to send. -/
theorem put_rs (t : ℕ) (h : Fin 2) (r : ℕ) (hr : r = 512 * h.val) (w : FVec F S4096x512 .fp8e4m3) (hw : w = w8 m (resTo t c)) (hc) (inb) (x : S1x512x512.Idx) :
    shapeCast S1x512x512 (truncf .bf16 (blk (scl m c) (xH m c h) w) bitsLt_bf16_f32) hc x
      = rsF m c ((Rect.unit (s := S3x1024x512) ![t, r, 0] S1x512x512.size inb).emb x) := by
  subst hr hw
  rw [addUnit]
  have h0 : (x 0).val = 0 := by have : (x 0).val < 1 := (x 0).isLt; omega
  have E0 := emb_un inb x 0
  have E1 := emb_un inb x 1
  have E2 := emb_un inb x 2
  exact (rsF_at m c t h (x 1) (x 2) _ (E0.trans (by rw [h0]; rfl)) E1 (E2.trans (Nat.zero_add _))).symm

/-- A received block, widened, in an output slot. -/
theorem put_got (t : ℕ) (ht : resFrom t c ≠ c) (h : Fin 2) (r a : ℕ) (hr : r = 512 * h.val) (inb inb') (x : S1x512x512.Idx) :
    k0_pay17 (fun x => rrF m c ((Rect.unit (s := S3x1024x512) ![t, r, 0] S1x512x512.size inb).emb x)) x
      = osF m c (resFrom t c) h ((Rect.unit (s := S4x512x512) ![a, 0, 0] S1x512x512.size inb').emb x) := by
  subst hr
  unfold k0_pay17
  show extf (s := S1x512x512) .f32 (shapeCast S1x512x512 (shapeCast S512x512 (fun x => rrF m c ((Rect.unit (s := S3x1024x512) ![t, 512 * h.val, 0] S1x512x512.size inb).emb x)) _) _) bitsLt_bf16_f32 x = _
  rw [shapeCast_comp, shapeCast_id (s := S1x512x512)]
  have h0 : (x 0).val = 0 := by have : (x 0).val < 1 := (x 0).isLt; omega
  have E0 := emb_un inb x 0
  have E1 := emb_un inb x 1
  have E2 := emb_un inb x 2
  have G1 := emb_un inb' x 1
  have G2 := emb_un inb' x 2
  have e : rrF m c ((Rect.unit (s := S3x1024x512) ![t, 512 * h.val, 0] S1x512x512.size inb).emb x) = yN m (resFrom t c) c h (i2 (d := ![512, 512]) (x 1) (x 2)) := by
    unfold rrF
    rw [show resFrom _ c = resFrom t c from congrArg (resFrom · c) (E0.trans (by rw [h0]; rfl)),
      rsF_at m (resFrom t c) t h (x 1) (x 2) _ (E0.trans (by rw [h0]; rfl)) E1 (E2.trans (Nat.zero_add _)), resTo_from]
  unfold osF
  refine Eq.trans ?_ ((outF_at m c (resFrom t c) h (x 1) (x 2) _ ?_ ?_).trans (if_neg ht)).symm
  · exact congrArg (FloatOps.extf (F := F) (φ := .bf16) .f32 bitsLt_bf16_f32) e
  · show 1024 * (resFrom t c).val + 512 * h.val + _ = _
    exact congrArg (1024 * (resFrom t c).val + 512 * h.val + ·) (G1.trans (Nat.zero_add _))
  · exact G2.trans (Nat.zero_add _)

theorem resFrom_ne (t : Fin 3) : resFrom t.val c ≠ c := by revert t c; decide

end Cert.KProof

end
-- ==== Proof.Enter.lean ====
/-
  The body's first part: the first load of weights, the entry barrier.
-/
module

public import proofs.«01_k».proof.Proof.Blocks

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-- A part of the body at the kernel's own buffers and semaphores. -/
abbrev at' {β : Type*} (f : (arg0 : Memref sig .tc .hbm S1024x4096 .f32) → arg0.IsWhole → (arg1 : Memref sig .tc .hbm S4096x512 .f32) → arg1.IsWhole
    → (arg2 : Memref sig .tc .smem S1 .f32) → arg2.IsWhole → (arg3 : Memref sig .tc .smem S1 .f32) → arg3.IsWhole → (arg4 : Memref sig .tc .hbm S4096x512 .f32) → arg4.IsWhole
    → (arg5 : Memref sig .tc .vmem S4x4096x512 .fp8e4m3) → arg5.IsWhole → (arg6 : Memref sig .tc .vmem S1024x4096 .fp8e4m3) → arg6.IsWhole
    → (arg7 : Memref sig .tc .vmem S2x512x4096 .f32) → arg7.IsWhole → (arg8 : Memref sig .tc .vmem S2x2048x512 .f32) → arg8.IsWhole
    → (arg9 : Memref sig .tc .vmem S3x1024x512 .bf16) → arg9.IsWhole → (arg10 : Memref sig .tc .vmem S3x1024x512 .bf16) → arg10.IsWhole
    → (arg11 : Memref sig .tc .vmem S4x512x512 .f32) → arg11.IsWhole → DmaSems sig S12 → DmaSems sig S12 → DmaSems sig S4 → DmaSems sig S4 → β) : β :=
  f (Memref.whole main_arg0) (Memref.isWhole_whole _) (Memref.whole main_arg1) (Memref.isWhole_whole _) (Memref.whole cc0_stg0_0) (Memref.isWhole_whole _)
    (Memref.whole cc0_stg1_0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10

/-- What a device needs to pass the entry barrier. -/
def bReady : sProp 𝕄 :=
  iprop(dutyTok EX (barCell (prv c)) 0 true ∗ dutyTok EX (barCell (nxt c)) 0 false ∗ cred (tallyAt (barCell c) () 2) ∗ atPos EX (barCell c) 0 ∅ 0
    ∗ ∃ W : Waits sig Unit, owes (c : Thread nD τ) (O₀ c) W)

theorem dev_prv {n : Dev nD} (h : n.val = (c.val + 3) % 4) : n = prv c := Fin.ext h
theorem dev_nxt {n : Dev nD} (h : n.val = (c.val + 1) % 4) : n = nxt c := Fin.ext h
theorem dev_dia {n : Dev nD} (h : n.val = (c.val + 2) % 4) : n = dia c := Fin.ext h

/-- The free semaphore of a load or of a store of results. -/
def lZ (j : Fin 4) : sProp 𝕄 := semVal ((c : Thread nD τ), .dma (loadS j)) 0
def oZ (j : Fin 4) : sProp 𝕄 := semVal ((c : Thread nD τ), .dma (outS j)) 0

theorem lv_load (j : Fin 4) : lvS (.dma (loadS j)) = 0 := by revert j; decide
theorem lv_out (j : Fin 4) : lvS (.dma (outS j)) = 0 := by revert j; decide

/-- The wait for a load of weights, -/
theorem wload_wait (l : List (Fin 12)) (j : Fin 4) (a r : ℕ) {sem : DmaSem sig} (hs : sem = loadS j) {sp : Space} {sh : Shape} {e : EltTy} {srcw : Memref sig .tc sp sh e}
    {inb' sq h' hsrc hdst} {α : Type} {Q : α → sProp 𝕄} {k : PUnit → Prog (TpuEff nD τ sig (Elt F) Λ₀ .tc) α} :
    iprop(ctx m K ∗ wFly m c j a r ∗ OW c l)
      ⊢ iprop((iprop(wsP m c a ∗ wP m c r ∗ lZ c j ∗ OW c l) -∗ wpc c (k ⟨⟩) Q)
        -∗ wpc c (.op (.waitDma2 sem srcw (((Memref.whole cc0_scratch3 : Memref sig .tc .vmem S2x2048x512 .f32).slice (Rect.unit (s := S2x2048x512) ![a, 0, 0] S1x2048x512.size inb') h').squeeze S2048x512 sq) hsrc hdst) k) Q) := by
  iintro H Hk
  unfold wFly lZ
  iapply (copy_wait m K c l hs (lv_load j) (dstw := (((Memref.whole cc0_scratch3 : Memref sig .tc .vmem S2x2048x512 .f32).slice (Rect.unit (s := S2x2048x512) ![a, 0, 0] S1x2048x512.size inb') h').squeeze S2048x512 sq)) (N := NwL) rfl) $$ H
  iintro ⟨⟨H1, H2⟩, H3, H4⟩
  iapply Hk
  isplitl [H1]; · iexact H1
  isplitl [H2]; · iexact H2
  isplitl [H3] <;> iassumption

/-- of rows, -/
theorem xload_wait (l : List (Fin 12)) (j : Fin 4) (a r : ℕ) {sem : DmaSem sig} (hs : sem = loadS j) {sp : Space} {sh : Shape} {e : EltTy} {srcw : Memref sig .tc sp sh e}
    {inb' sq h' hsrc hdst} {α : Type} {Q : α → sProp 𝕄} {k : PUnit → Prog (TpuEff nD τ sig (Elt F) Λ₀ .tc) α} :
    iprop(ctx m K ∗ xFly m c j a r ∗ OW c l)
      ⊢ iprop((iprop(xsP m c a ∗ xP m c r ∗ lZ c j ∗ OW c l) -∗ wpc c (k ⟨⟩) Q)
        -∗ wpc c (.op (.waitDma2 sem srcw (((Memref.whole cc0_scratch2 : Memref sig .tc .vmem S2x512x4096 .f32).slice (Rect.unit (s := S2x512x4096) ![a, 0, 0] S1x512x4096.size inb') h').squeeze S512x4096 sq) hsrc hdst) k) Q) := by
  iintro H Hk
  unfold xFly lZ
  iapply (copy_wait m K c l hs (lv_load j) (dstw := (((Memref.whole cc0_scratch2 : Memref sig .tc .vmem S2x512x4096 .f32).slice (Rect.unit (s := S2x512x4096) ![a, 0, 0] S1x512x4096.size inb') h').squeeze S512x4096 sq)) (N := NxL) rfl) $$ H
  iintro ⟨⟨H1, H2⟩, H3, H4⟩
  iapply Hk
  isplitl [H1]; · iexact H1
  isplitl [H2]; · iexact H2
  isplitl [H3] <;> iassumption

/-- for a store of a part of the result. -/
theorem out_wait (l : List (Fin 12)) (j : Fin 4) (a : ℕ) (d : Dev nD) (hh : Fin 2) {sem : DmaSem sig} (hs : sem = outS j) {sp : Space} {sh : Shape} {e : EltTy} {srcw : Memref sig .tc sp sh e}
    {off : Fin 2 → ℕ} {inb h hsrc hdst} {α : Type} {Q : α → sProp 𝕄} {k : PUnit → Prog (TpuEff nD τ sig (Elt F) Λ₀ .tc) α} :
    iprop(ctx m K ∗ oFly m c j a d hh ∗ OW c l)
      ⊢ iprop((iprop(oP m c d hh ∗ osP m c a d hh ∗ oZ c j ∗ OW c l) -∗ wpc c (k ⟨⟩) Q)
        -∗ wpc c (.op (.waitDma2 sem srcw ((Memref.whole main_v1 : Memref sig .tc .hbm S4096x512 .f32).slice (Rect.unit (s := S4096x512) off S512x512.size inb) h) hsrc hdst) k) Q) := by
  iintro H Hk
  unfold oFly oZ
  iapply (copy_wait m K c l hs (lv_out j) out_credit) $$ H
  iintro ⟨⟨H1, H2⟩, H3, H4⟩
  iapply Hk
  isplitl [H1]; · iexact H1
  isplitl [H2]; · iexact H2
  isplitl [H3] <;> iassumption

/-- Two halves of one share. -/
theorem wgP_lend (s r : ℕ) : wgP m c s r fullShare ⊢ iprop(wgP m c s r qK ∗ wgP m c s r qT) := by
  unfold wgP; exact (pointsTo_share (PosShare.mem_left_op_right fullShare)).1
theorem wgP_lend' (s r : ℕ) : wgP m c s r qT ⊢ iprop(wgP m c s r qL ∗ wgP m c s r qR) := by
  unfold wgP; exact (pointsTo_share (PosShare.mem_left_op_right fullShare.right)).1

theorem wpc_ret {α : Type} {Q : α → sProp 𝕄} {a : α} : Q a ⊢ wpc (F := F) c (.ret a) Q := fupd_intro
theorem wpc_bind {α β : Type} {Q : β → sProp 𝕄} {p : Prog (TpuEff nD τ sig (Elt F) Λ₀ .tc) α} {k : α → Prog (TpuEff nD τ sig (Elt F) Λ₀ .tc) β} :
    wpc c p (fun a => wpc c (k a) Q) ⊢ wpc (F := F) c (p >>= k) Q := Entails.of_eq (wp_bind ..).symm

set_option maxHeartbeats 1600000 in
theorem part1 {Kt : (Σ' (d0 : Dev nD) (v2 : BitVec 32) (v5 : BitVec 32) (v7 : BitVec 32), BitVec 32) → sProp 𝕄} :
    iprop(ctx m K ∗ bReady c ∗ toPrv c ∗ toNxt c ∗ wP m c 0 ∗ wsE c 0 ∗ lZ c 0)
      ⊢ iprop((∀ v2 v5 v7 v9, iprop(toNxt (prv c) ∗ toPrv (nxt c) ∗ semVal (barCell c) 0 ∗ wsP m c 0 ∗ wP m c 0 ∗ lZ c 0 ∗ OW c order) -∗ Kt ⟨c, v2, v5, v7, v9⟩)
        -∗ wpc c (at' k0_part1) Kt) := by
  rw [k0_part1_eq_skeleton]; unfold k0_part1_skel
  simp only [semSignalWord, semWaitWord, Prog.lift, Prog.bind_op, Prog.bind_ret, Prog.pure_eq_ret, wp_deviceId]
  unfold bReady
  iintro ⟨#Hc, ⟨Ht1, Ht2, Hcr, Ha, ⟨%W, HO⟩⟩, HP, HN, Hw, Hws, Hl⟩ Hk
  iapply (wload_start m c 0 0 0 rfl (sem_load (by decide) _ _)) $$ [Hw Hws Hl]
  · isplitl [Hw]; · iexact Hw
    isplitl [Hws]; · iexact Hws
    unfold lZ; iexact Hl
  iintro Hfl
  simp only [dev_prv c (n := ⟨k0_dev1 c, k0_dev1_lt c⟩) (k0_dev1_eq c), dev_nxt c (n := ⟨k0_dev2 c, k0_dev2_lt c⟩) (k0_dev2_eq c)]
  ihave H1 := (ctx_bar m K (prv c)) $$ Hc
  icases H1 with ⟨#HI1, #HR1, -⟩
  ihave H2 := (ctx_bar m K (nxt c)) $$ Hc
  icases H2 with ⟨#HI2, #HR2, -⟩
  ihave H3 := (ctx_bar m K c) $$ Hc
  icases H3 with ⟨#HI3, -, #HL⟩
  iapply (Rounds.wp_signal 𝒱₀ EX (kRd m) (c : Thread nD τ) none (dst := (prv c : Thread nD τ)) (κ := K (prv c, 0)) (d := true)
    (by rw [duties_bar]; exact Finset.mem_univ _) ((amount_bar m (prv c) true).trans (by decide)) () (O₁ c) rfl) $$ [HO Ht1 HP]
  · isplitr; · iexact HI1
    isplitl [HO]; · iexact HO
    isplitl [Ht1]; · iexact Ht1
    isplitl [HP]; · rw [payload_bar_true, nxt_prv]; iexact HP
    iexact HR1
  iintro HO
  unfold O₁
  iapply (Rounds.wp_signal 𝒱₀ EX (kRd m) (c : Thread nD τ) none (dst := (nxt c : Thread nD τ)) (κ := K (nxt c, 0)) (d := false)
    (by rw [duties_bar]; exact Finset.mem_univ _) ((amount_bar m (nxt c) false).trans (by decide)) () (Ow c order) rfl) $$ [HO Ht2 HN]
  · isplitr; · iexact HI2
    isplitl [HO]; · iexact HO
    isplitl [Ht2]; · iexact Ht2
    isplitl [HN]; · rw [payload_bar_false, prv_nxt]; iexact HN
    iexact HR2
  iintro HO
  iapply (Rounds.wp_wait_rest_token 𝒱₀ EX (kRd m) (c : Thread nD τ) none (κ := K (c, 0))
      (wpE_semWait_eq 𝒱₀ (c : Thread nD τ) none Set.univ) (Set.mem_univ _) () (O := Ow c order) (W := W) (R := 0) (m := 0) (T := ∅)
      (by rw [expect_bar]; decide)) $$ [Hcr HO Ha]
  · isplitr; · iexact HI3
    isplitl [Hcr]; · iexact Hcr
    isplitl [HO]; · iexact HO
    isplitr; · iapply (mayWait c (.reg barS) order (by decide)); iexact HL
    iexact Ha
  iintro ⟨HO, Ha, -, Hpay⟩
  ihave Hp := (Entails.of_eq (rest_bar m c)) $$ Hpay
  icases Hp with ⟨HP, HN⟩
  imod (Rounds.cell_close EX (kRd m) (Set.mem_univ (K (c, 0))) (fun h => h) (R := 0 + 1) (duties_later m (barCell c))) $$ [Ha] with Hz
  · isplitr; · iexact HI3
    iexact Ha
  iapply (wload_wait m K c order 0 0 0 (sem_load (by decide) _ _)) $$ [Hfl HO]
  · unfold OW; iframe Hc Hfl; iexists _; iexact HO
  iintro ⟨H1, H2, H3, H4⟩
  iapply (wpc_ret c)
  iapply Hk
  iframe HP HN Hz H1 H2 H3 H4

end Cert.KProof

end
-- ==== Proof.Gather.lean ====
/-
  The parts that narrow the own blocks, send the weights round, and put the own result blocks out.
-/
module

public import proofs.«01_k».proof.Proof.Enter

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-- The first half of the own rows as the fourth part returns them, on their way to the buffer. -/
def xRow : FVec F S512x4096 .fp8e4m3 := k0_pay3 fun x => xsF m c ((Rect.unit (s := S2x512x4096) ![0, 0, 0] S1x512x4096.size inb_S2x512x4096_S1x512x4096_0_0_0).emb x)

theorem put_xRow (inb') (x : S512x4096.Idx) : k0_pay4 (xRow m c) x = x8 m c ((Rect.unit (s := S1024x4096) ![0, 0] S512x4096.size inb').emb x) :=
  put_x m c 0 0 rfl _ inb' x

/-- The two scales in their windows. -/
def sclP : sProp 𝕄 := iprop((((c : Thread nD τ).loc cc0_stg0_0) ↦{fullShare} sxA m c) ∗ (((c : Thread nD τ).loc cc0_stg1_0) ↦{fullShare} swA m c))

/-- The two halves of a slab are the slab. -/
theorem wgS_join (s : ℕ) (q : PosShare TreeShare) : iprop(wgP m c s 0 q ∗ wgP m c s 2048 q) ⊢ wgS m c s q := by
  unfold wgP wgS
  have hd : Disjoint (wgB s 0) (wgB s 2048) := Finset.disjoint_left.mpr fun i hi hj => by
    rw [mem_bx3] at hi hj; simp only [Matrix.cons_val] at hi hj; omega
  have hu : wgSB s = wgB s 0 ∪ wgB s 2048 := Finset.ext fun i => by
    have := (i 1).isLt
    rw [Finset.mem_union, mem_bx3, mem_bx3, mem_bx3]; simp only [Matrix.cons_val]
    have h1 : (i 1).val < 4096 := this
    omega
  rw [hu]
  exact (pointsTo_union hd).2

omit [FloatOps F] in
/-- What travels beside transfer 2 of device `c`: the device after it's third result slot. -/
theorem ride_two : iprop(rrE (nxt c) 2 0 ∗ rrE (nxt c) 2 512) ⊢ ride (F := F) (prv c) 2 := by
  show _ ⊢ iprop(rrE (dia (prv c)) 2 0 ∗ rrE (dia (prv c)) 2 512)
  rw [dia_prv]
omit [FloatOps F] in
theorem ride_got : ride (F := F) c 2 ⊢ iprop(rrE (dia c) 2 0 ∗ rrE (dia c) 2 512) := .rfl

theorem part2 {v7 : BitVec 32} {Kt : PUnit → sProp 𝕄} :
    iprop(wP m c 2048 ∗ wsE c 1 ∗ lZ c 1 ∗ xP m c 0 ∗ xsE c 0 ∗ lZ c 2 ∗ xP m c 512 ∗ xsE c 1 ∗ lZ c 3 ∗ wsP m c 0 ∗ wgE c 0 0)
      ⊢ iprop((iprop(wFly m c 1 1 2048 ∗ xFly m c 2 0 0 ∗ xFly m c 3 1 512 ∗ wsP m c 0 ∗ wgP m c 0 0 fullShare) -∗ Kt ⟨⟩)
        -∗ wpc c (at' k0_part2 v7) Kt) := by
  rw [k0_part2_eq_skeleton]; unfold k0_part2_skel lZ
  simp only [Prog.lift, Prog.bind_op, Prog.bind_ret, Prog.pure_eq_ret]
  iintro ⟨Hw, Hws, Hl1, Hx0, Hxs0, Hl2, Hx1, Hxs1, Hl3, Hs, Hg⟩ Hk
  iapply (wload_start m c 1 1 2048 rfl (sem_load (by decide) _ _)) $$ [Hw Hws Hl1]
  · iframe Hw Hws Hl1
  iintro Hf1
  iapply (xload_start m c 2 0 0 rfl (sem_load (by decide) _ _)) $$ [Hx0 Hxs0 Hl2]
  · iframe Hx0 Hxs0 Hl2
  iintro Hf2
  iapply (xload_start m c 3 1 512 rfl (sem_load (by decide) _ _)) $$ [Hx1 Hxs1 Hl3]
  · iframe Hx1 Hxs1 Hl3
  iintro Hf3
  iapply (ld_ws m c 0) $$ Hs
  iintro Hs
  iapply (ldE_wg c 0 0) $$ Hg
  iintro %v Hg
  iapply (st_wg m c 0 0 (by intro x; exact put_w m c 0 0 rfl _ _ x)) $$ Hg
  iintro Hg
  iapply (wpc_ret c)
  iapply Hk
  iframe Hf1 Hf2 Hf3 Hs Hg

theorem part3 {v5 : BitVec 32} {Kt : PUnit → sProp 𝕄} :
    iprop(ctx m K ∗ wgP m c 0 0 fullShare ∗ wgE (nxt c) 1 0 ∗ sReady c 0 ∗ wgE (prv c) 2 0 ∗ rrE (nxt c) 2 0 ∗ rrE (nxt c) 2 512 ∗ sReady c 2 ∗ OW c order
        ∗ wFly m c 1 1 2048 ∗ wgE c 0 2048)
      ⊢ iprop((iprop(wgP m c 0 0 qK ∗ sFly c 0 ∗ sFly c 2 ∗ OW c [1, 3, 4, 5, 6, 8, 7, 9, 10, 11] ∗ wsP m c 1 ∗ wP m c 2048 ∗ lZ c 1 ∗ wgP m c 0 2048 fullShare) -∗ Kt ⟨⟩)
        -∗ wpc c (at' k0_part3 c v5) Kt) := by
  rw [k0_part3_eq_skeleton]; unfold k0_part3_skel
  simp only [Prog.lift, Prog.bind_op, Prog.bind_ret, Prog.pure_eq_ret]
  iintro ⟨#Hc, Hg, Hd0, Hr0, Hd2, Hv, Hv', Hr2, HO, Hf, Hg'⟩ Hk
  ihave H := (wgP_lend m c 0 0) $$ Hg
  icases H with ⟨Hg, HT⟩
  ihave H := (wgP_lend' m c 0 0) $$ HT
  icases H with ⟨HL, HR⟩
  iapply (wg_send m K c 0 [2, 1, 3, 4, 5, 6, 8, 7, 9, 10, 11] 0 1 0 qR (dev_nxt c (k0_dev3_eq c)) (by decide) (prv_nxt c).symm rfl rfl
    (sem_send (by decide) _ _) (sem_recv (by decide) _ _)) $$ [HR Hd0 Hr0 HO]
  · iframe Hc HR Hd0
    isplitr; · iempintro
    iframe Hr0; iexact HO
  iintro ⟨HF0, HO⟩
  iapply (wg_send m K c 2 [1, 3, 4, 5, 6, 8, 7, 9, 10, 11] 0 2 0 qL (dev_prv c (k0_dev4_eq c)) (by decide) (nxt_prv c).symm rfl rfl
    (sem_send (by decide) _ _) (sem_recv (by decide) _ _)) $$ [HL Hd2 Hv Hv' Hr2 HO]
  · iframe Hc HL Hd2
    isplitl [Hv Hv']
    · iapply (ride_two c); iframe Hv Hv'
    iframe Hr2 HO
  iintro ⟨HF2, HO⟩
  iapply (wload_wait m K c [1, 3, 4, 5, 6, 8, 7, 9, 10, 11] 1 1 2048 (sem_load (by decide) _ _)) $$ [Hf HO]
  · iframe Hc Hf HO
  iintro ⟨Hs, Hw, Hl, HO⟩
  iapply (ld_ws m c 1) $$ Hs
  iintro Hs
  iapply (ldE_wg c 0 2048) $$ Hg'
  iintro %v Hg'
  iapply (st_wg m c 0 2048 (by intro x; exact put_w m c 1 2048 rfl _ _ x)) $$ Hg'
  iintro Hg'
  iapply (wpc_ret c)
  iapply Hk
  iframe Hg HF0 HF2 HO Hs Hw Hl Hg'

theorem part4 {v5 v7 : BitVec 32} {Kt : FVec F S512x4096 .fp8e4m3 → sProp 𝕄} :
    iprop(ctx m K ∗ wgP m c 0 2048 fullShare ∗ wgE (nxt c) 1 2048 ∗ sReady c 1 ∗ wgE (prv c) 2 2048 ∗ sReady c 3 ∗ OW c [1, 3, 4, 5, 6, 8, 7, 9, 10, 11]
        ∗ xFly m c 2 0 0 ∗ x8E c 0)
      ⊢ iprop((iprop(wgP m c 0 2048 qK ∗ sFly c 1 ∗ sFly c 3 ∗ OW c [4, 5, 6, 8, 7, 9, 10, 11] ∗ xsP m c 0 ∗ xP m c 0 ∗ lZ c 2 ∗ x8E c 0) -∗ Kt (xRow m c))
        -∗ wpc c (at' k0_part4 c v5 v7) Kt) := by
  rw [k0_part4_eq_skeleton]; unfold k0_part4_skel xRow
  simp only [Prog.lift, Prog.bind_op, Prog.bind_ret, Prog.pure_eq_ret]
  iintro ⟨#Hc, Hg, Hd1, Hr1, Hd3, Hr3, HO, Hf, Hx⟩ Hk
  ihave H := (wgP_lend m c 0 2048) $$ Hg
  icases H with ⟨Hg, HT⟩
  ihave H := (wgP_lend' m c 0 2048) $$ HT
  icases H with ⟨HL, HR⟩
  iapply (wg_send m K c 1 [3, 4, 5, 6, 8, 7, 9, 10, 11] 0 1 2048 qR (dev_nxt c (k0_dev5_eq c)) (by decide) (prv_nxt c).symm rfl rfl
    (sem_send (by decide) _ _) (sem_recv (by decide) _ _)) $$ [HR Hd1 Hr1 HO]
  · iframe Hc HR Hd1
    isplitr; · iempintro
    iframe Hr1 HO
  iintro ⟨HF1, HO⟩
  iapply (wg_send m K c 3 [4, 5, 6, 8, 7, 9, 10, 11] 0 2 2048 qL (dev_prv c (k0_dev6_eq c)) (by decide) (nxt_prv c).symm rfl rfl
    (sem_send (by decide) _ _) (sem_recv (by decide) _ _)) $$ [HL Hd3 Hr3 HO]
  · iframe Hc HL Hd3
    isplitr; · iempintro
    iframe Hr3 HO
  iintro ⟨HF3, HO⟩
  iapply (xload_wait m K c [4, 5, 6, 8, 7, 9, 10, 11] 2 0 0 (sem_load (by decide) _ _)) $$ [Hf HO]
  · iframe Hc Hf HO
  iintro ⟨Hs, Hw, Hl, HO⟩
  iapply (ld_xs m c 0) $$ Hs
  iintro Hs
  iapply (ldE_x8 c 0) $$ Hx
  iintro %v Hx
  iapply (wpc_ret c)
  iapply Hk
  iframe Hg HF1 HF3 HO Hs Hw Hl Hx

theorem one_ix1 (x : S1.Idx) : x = ix1 :=
  funext fun a => Fin.ext (by have h1 := (x a).isLt; have h2 := (ix1 a).isLt; fin_cases a; exact (Nat.lt_one_iff.mp h1).trans (Nat.lt_one_iff.mp h2).symm)

theorem unit_univ (inb) : (Rect.unit (s := S1) ![0] S1.size inb).toLoadRect.set = Finset.univ :=
  Finset.eq_univ_iff_forall.mpr fun i => by
    rw [show (Rect.unit (s := S1) ![0] S1.size inb).toLoadRect.set = bx ![0] S1.size from unit_set _ _ inb, mem_bx]
    intro a; have := (i a).isLt; fin_cases a; exact ⟨Nat.zero_le _, by simpa using this⟩

/-- A read of a scale; -/
theorem ld_sx {α : Type} {Q : α → sProp 𝕄} {inb hl} {k : (S1.Idx → Elt F .f32) → Prog (TpuEff nD τ sig (Elt F) Λ₀ .tc) α} :
    sclP m c ⊢ iprop((sclP m c -∗ wpc c (k fun _ => sxA m c ix1) Q)
      -∗ wpc c (.op (.load (Memref.whole cc0_stg0_0 : Memref sig .tc .smem S1 .f32) (Rect.unit (s := S1) ![0] S1.size inb).toLoadRect hl) k) Q) := by
  have e : wpc c (k fun _ => sxA m c ix1) Q = wpc c (k fun x => sxA m c ((Rect.unit (s := S1) ![0] S1.size inb).emb x)) Q :=
    congrArg (fun g => wpc c (k g) Q) (funext fun x => congrArg (sxA m c) (one_ix1 _).symm)
  unfold sclP
  rw [e]
  iintro ⟨H1, H2⟩ Hk
  iapply (load_at c (Memref.whole cc0_stg0_0 : Memref sig .tc .smem S1 .f32) (Rect.unit (s := S1) ![0] S1.size inb) (S := Finset.univ)
    ((setOn_whole _ _).trans (unit_univ inb)) fullShare (sxA m c)) $$ H1
  iintro H1
  iapply Hk
  iframe H1 H2
/-- of the other. -/
theorem ld_sw {α : Type} {Q : α → sProp 𝕄} {inb hl} {k : (S1.Idx → Elt F .f32) → Prog (TpuEff nD τ sig (Elt F) Λ₀ .tc) α} :
    sclP m c ⊢ iprop((sclP m c -∗ wpc c (k fun _ => swA m c ix1) Q)
      -∗ wpc c (.op (.load (Memref.whole cc0_stg1_0 : Memref sig .tc .smem S1 .f32) (Rect.unit (s := S1) ![0] S1.size inb).toLoadRect hl) k) Q) := by
  have e : wpc c (k fun _ => swA m c ix1) Q = wpc c (k fun x => swA m c ((Rect.unit (s := S1) ![0] S1.size inb).emb x)) Q :=
    congrArg (fun g => wpc c (k g) Q) (funext fun x => congrArg (swA m c) (one_ix1 _).symm)
  unfold sclP
  rw [e]
  iintro ⟨H1, H2⟩ Hk
  iapply (load_at c (Memref.whole cc0_stg1_0 : Memref sig .tc .smem S1 .f32) (Rect.unit (s := S1) ![0] S1.size inb) (S := Finset.univ)
    ((setOn_whole _ _).trans (unit_univ inb)) fullShare (swA m c)) $$ H2
  iintro H2
  iapply Hk
  iframe H1 H2

theorem own_val (h : Fin 2) (r : ℕ) (hr : r = 512 * h.val) (a : ℕ) {i1 i2 i3 hc hc'} (x : S1x512x512.Idx) :
    shapeCast S1x512x512 (blk (scl m c) (fun x => x8 m c ((Rect.unit (s := S1024x4096) ![r, 0] S512x4096.size i1).emb x))
      (shapeCast S4096x512 (fun x => wgF m c ((Rect.unit (s := S4x4096x512) ![0, 0, 0] S1x4096x512.size i2).emb x)) hc)) hc' x
      = osF m c c h ((Rect.unit (s := S4x512x512) ![a, 0, 0] S1x512x512.size i3).emb x) := by
  exact (congrArg₂ (fun X W => shapeCast S1x512x512 (blk (scl m c) X W) hc' x) (xh_eq m c h r hr i1) (slab_eq m c 0 i2 hc)).trans (put_own m c h a hc' i3 x)

theorem part5 {v2 : BitVec 32} {Kt : F .f32 → sProp 𝕄} :
    iprop(ctx m K ∗ x8E c 0 ∗ xFly m c 3 1 512 ∗ x8E c 512 ∗ sclP m c ∗ wgS m c 0 qK ∗ osE c 0 ∗ OW c [4, 5, 6, 8, 7, 9, 10, 11])
      ⊢ iprop((iprop(x8P m c 0 ∗ x8P m c 512 ∗ xsP m c 1 ∗ xP m c 512 ∗ lZ c 3 ∗ sclP m c ∗ wgS m c 0 qK ∗ osP m c 0 c 0 ∗ OW c [4, 5, 6, 8, 7, 9, 10, 11]) -∗ Kt (scl m c))
        -∗ wpc c (at' k0_part5 v2 (xRow m c)) Kt) := by
  rw [k0_part5_eq_skeleton]; unfold k0_part5_skel scl
  simp only [smemLoad, smemLoadElt, Prog.lift, Prog.bind_op, Prog.bind_ret, Prog.pure_eq_ret]
  iintro ⟨#Hc, Hx, Hf, Hx', Hsc, Hg, Ho, HO⟩ Hk
  iapply (st_x8 m c 0 (by intro x; exact put_xRow m c _ x)) $$ Hx
  iintro Hx
  iapply (xload_wait m K c [4, 5, 6, 8, 7, 9, 10, 11] 3 1 512 (sem_load (by decide) _ _)) $$ [Hf HO]
  · iframe Hc Hf HO
  iintro ⟨Hs, Hw, Hl, HO⟩
  iapply (ld_xs m c 1) $$ Hs
  iintro Hs
  iapply (ldE_x8 c 512) $$ Hx'
  iintro %v Hx'
  iapply (st_x8 m c 512 (by intro x; exact put_x m c 1 512 rfl _ _ x)) $$ Hx'
  iintro Hx'
  iapply (ld_sx m c) $$ Hsc
  iintro Hsc
  iapply (ld_sw m c) $$ Hsc
  iintro Hsc
  iapply (ld_x8 m c 0) $$ Hx
  iintro Hx
  iapply (ld_wgS m c 0 qK) $$ Hg
  iintro Hg
  iapply (ldE_os c 0) $$ Ho
  iintro %v' Ho
  iapply (st_os m c 0 c 0 (by intro x; exact own_val m c 0 0 rfl 0 x)) $$ Ho
  iintro Ho
  iapply (wpc_ret c)
  iapply Hk
  iframe Hx Hx' Hs Hw Hl Hsc Hg Ho HO

end Cert.KProof

end
-- ==== Proof.Middle.lean ====
/-
  The parts that collect the weights, and multiply and send off the blocks of the other devices.
-/
module

public import proofs.«01_k».proof.Proof.Gather

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-- The free semaphores of a transfer. -/
def rZ (s : Fin 12) : sProp 𝕄 := semVal (recvCell c s) 0
def sZ (s : Fin 12) : sProp 𝕄 := semVal (sendCell c s) 0

/-- The wait for a transfer's arrival, what lands and rides named; -/
theorem recv_got (s : Fin 12) (l : List (Fin 12)) (X Y : sProp 𝕄) (hX : landPay m c s = X) (hY : ride c s = Y) (hl : ∀ s' ∈ l, lvR s < lvR s')
    {sp sp' : Space} {sh sh' : Shape} {e e' : EltTy} {sem : DmaSem sig} (hs : sem = recvS s) {srcw : Memref sig .tc sp' sh' e'} {dstw : Memref sig .tc sp sh e}
    {hsrc : srcw.view.WordExact} {hdst : dstw.view.WordExact} {α : Type} {Q : α → sProp 𝕄} {k : PUnit → Prog (TpuEff nD τ sig (Elt F) Λ₀ .tc) α}
    (hN : dstw.view.dmaCredit = NN s) :
    iprop(ctx m K ∗ rReady c s ∗ OW c l)
      ⊢ iprop((iprop(X ∗ Y ∗ rZ c s ∗ OW c l) -∗ wpc c (k ⟨⟩) Q) -∗ wpc c (.op (.waitDma2 sem srcw dstw hsrc hdst) k) Q) := by
  subst hX hY; exact recv_wait m K c s l hl hs hN
/-- the wait for its departure. -/
theorem send_got (s : Fin 12) (X : sProp 𝕄) (hX : sendPay m c s = X)
    {sp sp' : Space} {sh sh' : Shape} {e e' : EltTy} {sem : DmaSem sig} (hs : sem = sendS s) {srcw : Memref sig .tc sp' sh' e'} {dstw : Memref sig .tc sp sh e}
    {hsrc : srcw.view.WordExact} {hdst : dstw.view.WordExact} {α : Type} {Q : α → sProp 𝕄} {k : PUnit → Prog (TpuEff nD τ sig (Elt F) Λ₀ .tc) α}
    (hN : dstw.view.dmaCredit = NN s) :
    iprop(ctx m K ∗ sFly c s ∗ OW c [])
      ⊢ iprop((iprop(X ∗ sZ c s ∗ OW c []) -∗ wpc c (k ⟨⟩) Q) -∗ wpc c (.op (.waitDma2 sem srcw dstw hsrc hdst) k) Q) := by
  subst hX; exact send_wait m K c s hs hN

theorem part6 {v2 v7 : BitVec 32} {Kt : PUnit → sProp 𝕄} :
    iprop(osP m c 0 c 0 ∗ oE c c 0 ∗ oZ c 0 ∗ x8P m c 512 ∗ wgS m c 0 qK ∗ osE c 1 ∗ oE c c 1 ∗ oZ c 1)
      ⊢ iprop((iprop(oFly m c 0 0 c 0 ∗ x8P m c 512 ∗ wgS m c 0 qK ∗ oFly m c 1 1 c 1) -∗ Kt ⟨⟩)
        -∗ wpc c (at' k0_part6 c v2 v7 (scl m c)) Kt) := by
  rw [k0_part6_eq_skeleton]; unfold k0_part6_skel oZ
  simp only [Prog.lift, Prog.bind_op, Prog.bind_ret, Prog.pure_eq_ret]
  iintro ⟨Hs, Ho, Hz, Hx, Hg, Hs', Ho', Hz'⟩ Hk
  iapply (out_start m c 0 0 c 0 (k0_off1_eq c 0) (sem_out (by decide) _ _)) $$ [Hs Ho Hz]
  · iframe Hs Ho Hz
  iintro Hf
  iapply (ld_x8 m c 512) $$ Hx
  iintro Hx
  iapply (ld_wgS m c 0 qK) $$ Hg
  iintro Hg
  iapply (ldE_os c 1) $$ Hs'
  iintro %v Hs'
  iapply (st_os m c 1 c 1 (by intro x; exact own_val m c 1 512 rfl 1 x)) $$ Hs'
  iintro Hs'
  iapply (out_start m c 1 1 c 1 (k0_off1_eq c 1) (sem_out (by decide) _ _)) $$ [Hs' Ho' Hz']
  · iframe Hs' Ho' Hz'
  iintro Hf'
  iapply (wpc_ret c)
  iapply Hk
  iframe Hf Hx Hg Hf'

theorem part7 {v5 v7 : BitVec 32} {Kt : PUnit → sProp 𝕄} :
    iprop(ctx m K ∗ rReady c 0 ∗ wgE (nxt c) 3 0 ∗ sReady c 4 ∗ rReady c 3 ∗ OW c [4, 5, 6, 8, 7, 9, 10, 11])
      ⊢ iprop((iprop(rZ c 0 ∗ wgP m c 1 0 qK ∗ sFly c 4 ∗ rZ c 3 ∗ wgP m c 2 2048 fullShare ∗ OW c [5, 6, 8, 7, 9, 10, 11]) -∗ Kt ⟨⟩)
        -∗ wpc c (at' k0_part7 c v5 v7) Kt) := by
  rw [k0_part7_eq_skeleton]; unfold k0_part7_skel
  simp only [Prog.lift, Prog.bind_op, Prog.bind_ret, Prog.pure_eq_ret]
  iintro ⟨#Hc, Hr, Hd, Hs, Hr', HO⟩ Hk
  iapply (recv_got m K c 0 [4, 5, 6, 8, 7, 9, 10, 11] (wgP m c 1 0 fullShare) iprop(emp) rfl rfl (by decide) (sem_recv (by decide) _ _) rfl) $$ [Hr HO]
  · iframe Hc Hr HO
  iintro ⟨Hg, He, HZ, HO⟩
  ihave H := (wgP_lend m c 1 0) $$ Hg
  icases H with ⟨Hg, HT⟩
  iapply (wg_send m K c 4 [5, 6, 8, 7, 9, 10, 11] 1 3 0 qT (dev_nxt c (k0_dev7_eq c)) (by decide) (dia_nxt c).symm rfl rfl
    (sem_send (by decide) _ _) (sem_recv (by decide) _ _)) $$ [HT Hd Hs HO]
  · iframe Hc HT Hd
    isplitr; · iempintro
    iframe Hs HO
  iintro ⟨HF, HO⟩
  iapply (recv_got m K c 3 [5, 6, 8, 7, 9, 10, 11] (wgP m c 2 2048 fullShare) iprop(emp) rfl rfl (by decide) (sem_recv (by decide) _ _) rfl) $$ [Hr' HO]
  · iframe Hc Hr' HO
  iintro ⟨Hg', He, HZ', HO⟩
  iapply (wpc_ret c)
  iapply Hk
  iframe HZ Hg HF HZ' Hg' HO

/-- A block of results for device `slabOf s c`, as a result slot takes it. -/
theorem res_val (s t : ℕ) (hs : slabOf s c = resTo t c) (h : Fin 2) (r : ℕ) (hr : r = 512 * h.val) {i1 i2 i3 hc hc'} (x : S1x512x512.Idx) :
    shapeCast S1x512x512 (truncf .bf16 (blk (scl m c) (fun x => x8 m c ((Rect.unit (s := S1024x4096) ![r, 0] S512x4096.size i1).emb x))
      (shapeCast S4096x512 (fun x => wgF m c ((Rect.unit (s := S4x4096x512) ![s, 0, 0] S1x4096x512.size i2).emb x)) hc)) bitsLt_bf16_f32) hc' x
      = rsF m c ((Rect.unit (s := S3x1024x512) ![t, r, 0] S1x512x512.size i3).emb x) :=
  (congrArg (fun X => shapeCast S1x512x512 (truncf .bf16 (blk (scl m c) X _) bitsLt_bf16_f32) hc' x) (xh_eq m c h r hr i1)).trans
    (put_rs m c t h r hr _ ((slab_eq m c s i2 hc).trans (congrArg (w8 m) hs)) hc' i3 x)

/-- The first block for the device after, as the eighth part returns it. -/
def blkNxt : FVec F S512x512 .bf16 := k0_pay9 (scl m c) (fun x => x8 m c ((Rect.unit (s := S1024x4096) ![0, 0] S512x4096.size inb_S1024x4096_S512x4096_0_0).emb x))
  (fun x => wgF m c ((Rect.unit (s := S4x4096x512) ![2, 0, 0] S1x4096x512.size inb_S4x4096x512_S1x4096x512_2_0_0).emb x))
/-- The product behind the second block for the device before, as the tenth part returns it. -/
def prodPrv : FVec F S512x512 .f32 := k0_pay13 (fun x => x8 m c ((Rect.unit (s := S1024x4096) ![512, 0] S512x4096.size inb_S1024x4096_S512x4096_512_0).emb x))
  (fun x => wgF m c ((Rect.unit (s := S4x4096x512) ![1, 0, 0] S1x4096x512.size inb_S4x4096x512_S1x4096x512_1_0_0).emb x))
/-- The second half of the rows, as the twelfth part returns it. -/
def rowsHi : Vec F S512x4096 .fp8e4m3 := fun x => x8 m c ((Rect.unit (s := S1024x4096) ![512, 0] S512x4096.size inb_S1024x4096_S512x4096_512_0).emb x)
/-- The first block received from the device before, as the thirteenth part returns it. -/
def gotPrv : Vec F S1x512x512 .bf16 := fun x => rrF m c ((Rect.unit (s := S3x1024x512) ![0, 0, 0] S1x512x512.size inb_S3x1024x512_S1x512x512_0_0_0).emb x)

theorem part8 {v7 : BitVec 32} {Kt : (Σ' (_ : FVec F S512x512 .bf16), Vec F S1x512x512 .bf16) → sProp 𝕄} :
    iprop(ctx m K ∗ wgP m c 2 2048 fullShare ∗ wgE (prv c) 3 2048 ∗ sReady c 5 ∗ rReady c 2 ∗ rReady c 1 ∗ wgP m c 1 0 qK ∗ x8P m c 0 ∗ rsE c 0 0 ∗ OW c [5, 6, 8, 7, 9, 10, 11])
      ⊢ iprop((∀ v, iprop(sFly c 5 ∗ rZ c 2 ∗ rZ c 1 ∗ wgS m c 2 qK ∗ wgP m c 2 0 qT ∗ wgS m c 1 qK ∗ wgP m c 1 2048 qT ∗ ride c 2 ∗ x8P m c 0 ∗ rsE c 0 0
          ∗ OW c [6, 8, 7, 9, 10, 11]) -∗ Kt ⟨blkNxt m c, v⟩)
        -∗ wpc c (at' k0_part8 c v7 (scl m c)) Kt) := by
  rw [k0_part8_eq_skeleton]; unfold k0_part8_skel blkNxt
  simp only [Prog.lift, Prog.bind_op, Prog.bind_ret, Prog.pure_eq_ret]
  iintro ⟨#Hc, Hg, Hd, Hs, Hr, Hr', Hg1, Hx, Hrs, HO⟩ Hk
  ihave H := (wgP_lend m c 2 2048) $$ Hg
  icases H with ⟨Hg, HT⟩
  iapply (wg_send m K c 5 [6, 8, 7, 9, 10, 11] 2 3 2048 qT (dev_prv c (k0_dev8_eq c)) (by decide) (dia_prv c).symm rfl rfl
    (sem_send (by decide) _ _) (sem_recv (by decide) _ _)) $$ [HT Hd Hs HO]
  · iframe Hc HT Hd
    isplitr; · iempintro
    iframe Hs HO
  iintro ⟨HF, HO⟩
  iapply (recv_got m K c 2 [6, 8, 7, 9, 10, 11] (wgP m c 2 0 fullShare) (ride c 2) rfl rfl (by decide) (sem_recv (by decide) _ _) rfl) $$ [Hr HO]
  · iframe Hc Hr HO
  iintro ⟨Hg2, Hride, HZ, HO⟩
  iapply (recv_got m K c 1 [6, 8, 7, 9, 10, 11] (wgP m c 1 2048 fullShare) iprop(emp) rfl rfl (by decide) (sem_recv (by decide) _ _) rfl) $$ [Hr' HO]
  · iframe Hc Hr' HO
  iintro ⟨Hg1', He, HZ', HO⟩
  ihave H := (wgP_lend m c 2 0) $$ Hg2
  icases H with ⟨Hg2, HT2⟩
  ihave H := (wgP_lend m c 1 2048) $$ Hg1'
  icases H with ⟨Hg1', HT1⟩
  ihave HS2 := (wgS_join m c 2 qK) $$ [Hg2 Hg]
  · iframe Hg2 Hg
  ihave HS1 := (wgS_join m c 1 qK) $$ [Hg1 Hg1']
  · iframe Hg1 Hg1'
  iapply (ld_x8 m c 0) $$ Hx
  iintro Hx
  iapply (ld_wgS m c 2 qK) $$ HS2
  iintro HS2
  iapply (ldE_rs c 0 0) $$ Hrs
  iintro %v Hrs
  iapply (wpc_ret c)
  iapply Hk
  iframe HF HZ HZ' HS2 HT2 HS1 HT1 Hride Hx Hrs HO

theorem part9 {v5 v7 : BitVec 32} {v} {Kt : PUnit → sProp 𝕄} :
    iprop(ctx m K ∗ rsE c 0 0 ∗ rrE (nxt c) 0 0 ∗ sReady c 6 ∗ x8P m c 0 ∗ wgS m c 1 qK ∗ rsE c 1 0 ∗ OW c [6, 8, 7, 9, 10, 11])
      ⊢ iprop((iprop(sFly c 6 ∗ x8P m c 0 ∗ wgS m c 1 qK ∗ rsP m c 1 0 ∗ OW c [8, 7, 9, 10, 11]) -∗ Kt ⟨⟩)
        -∗ wpc c (at' k0_part9 c v5 v7 (scl m c) (blkNxt m c) v) Kt) := by
  rw [k0_part9_eq_skeleton]; unfold k0_part9_skel
  simp only [Prog.lift, Prog.bind_op, Prog.bind_ret, Prog.pure_eq_ret]
  iintro ⟨#Hc, Hrs, Hd, Hs, Hx, Hg, Hrs', HO⟩ Hk
  iapply (st_rs m c 0 0 (by intro x; exact res_val m c 2 0 rfl 0 0 rfl x)) $$ Hrs
  iintro Hrs
  iapply (rs_send m K c 6 [8, 7, 9, 10, 11] 0 0 (dev_nxt c (k0_dev9_eq c)) (by decide) (prv_nxt c) rfl rfl rfl
    (sem_send (by decide) _ _) (sem_recv (by decide) _ _)) $$ [Hrs Hd Hs HO]
  · iframe Hc Hrs Hd Hs HO
  iintro ⟨HF, HO⟩
  iapply (ld_x8 m c 0) $$ Hx
  iintro Hx
  iapply (ld_wgS m c 1 qK) $$ Hg
  iintro Hg
  iapply (ldE_rs c 1 0) $$ Hrs'
  iintro %v Hrs'
  iapply (st_rs m c 1 0 (by intro x; exact res_val m c 1 1 rfl 0 0 rfl x)) $$ Hrs'
  iintro Hrs'
  iapply (wpc_ret c)
  iapply Hk
  iframe HF Hx Hg Hrs' HO

theorem part10 {v7 : BitVec 32} {Kt : FVec F S512x512 .f32 → sProp 𝕄} :
    iprop(ctx m K ∗ rsP m c 1 0 ∗ rrE (prv c) 1 0 ∗ sReady c 8 ∗ x8P m c 512 ∗ wgS m c 2 qK ∗ rsE c 0 512 ∗ rrE (nxt c) 0 512 ∗ sReady c 7 ∗ wgS m c 1 qK ∗ OW c [8, 7, 9, 10, 11])
      ⊢ iprop((iprop(sFly c 8 ∗ x8P m c 512 ∗ wgS m c 2 qK ∗ sFly c 7 ∗ wgS m c 1 qK ∗ OW c [9, 10, 11]) -∗ Kt (prodPrv m c))
        -∗ wpc c (at' k0_part10 c v7 (scl m c)) Kt) := by
  rw [k0_part10_eq_skeleton]; unfold k0_part10_skel prodPrv
  simp only [Prog.lift, Prog.bind_op, Prog.bind_ret, Prog.pure_eq_ret]
  iintro ⟨#Hc, Hrs, Hd, Hs, Hx, Hg, Hrs', Hd', Hs', Hg', HO⟩ Hk
  iapply (rs_send m K c 8 [7, 9, 10, 11] 1 0 (dev_prv c (k0_dev10_eq c)) (by decide) (nxt_prv c) rfl rfl rfl
    (sem_send (by decide) _ _) (sem_recv (by decide) _ _)) $$ [Hrs Hd Hs HO]
  · iframe Hc Hrs Hd Hs HO
  iintro ⟨HF, HO⟩
  iapply (ld_x8 m c 512) $$ Hx
  iintro Hx
  iapply (ld_wgS m c 2 qK) $$ Hg
  iintro Hg
  iapply (ldE_rs c 0 512) $$ Hrs'
  iintro %v Hrs'
  iapply (st_rs m c 0 512 (by intro x; exact res_val m c 2 0 rfl 1 512 rfl x)) $$ Hrs'
  iintro Hrs'
  iapply (rs_send m K c 7 [9, 10, 11] 0 512 (dev_nxt c (k0_dev11_eq c)) (by decide) (prv_nxt c) rfl rfl rfl
    (sem_send (by decide) _ _) (sem_recv (by decide) _ _)) $$ [Hrs' Hd' Hs' HO]
  · iframe Hc Hrs' Hd' Hs' HO
  iintro ⟨HF', HO⟩
  iapply (ld_x8 m c 512) $$ Hx
  iintro Hx
  iapply (ld_wgS m c 1 qK) $$ Hg'
  iintro Hg'
  iapply (wpc_ret c)
  iapply Hk
  iframe HF Hx Hg HF' Hg' HO

theorem part11 {v5 v7 : BitVec 32} {Kt : PUnit → sProp 𝕄} :
    iprop(ctx m K ∗ rsE c 1 512 ∗ rrE (prv c) 1 512 ∗ sReady c 9 ∗ rReady c 4 ∗ OW c [9, 10, 11])
      ⊢ iprop((iprop(sFly c 9 ∗ wgP m c 3 0 fullShare ∗ rZ c 4 ∗ OW c [10, 11]) -∗ Kt ⟨⟩)
        -∗ wpc c (at' k0_part11 c v5 v7 (scl m c) (prodPrv m c)) Kt) := by
  rw [k0_part11_eq_skeleton]; unfold k0_part11_skel
  simp only [Prog.lift, Prog.bind_op, Prog.bind_ret, Prog.pure_eq_ret]
  iintro ⟨#Hc, Hrs, Hd, Hs, Hr, HO⟩ Hk
  iapply (ldE_rs c 1 512) $$ Hrs
  iintro %v Hrs
  iapply (st_rs m c 1 512 (by intro x; exact res_val m c 1 1 rfl 1 512 rfl x)) $$ Hrs
  iintro Hrs
  iapply (rs_send m K c 9 [10, 11] 1 512 (dev_prv c (k0_dev12_eq c)) (by decide) (nxt_prv c) rfl rfl rfl
    (sem_send (by decide) _ _) (sem_recv (by decide) _ _)) $$ [Hrs Hd Hs HO]
  · iframe Hc Hrs Hd Hs HO
  iintro ⟨HF, HO⟩
  iapply (recv_got m K c 4 [10, 11] (wgP m c 3 0 fullShare) iprop(emp) rfl rfl (by decide) (sem_recv (by decide) _ _) rfl) $$ [Hr HO]
  · iframe Hc Hr HO
  iintro ⟨Hg, He, HZ, HO⟩
  iapply (wpc_ret c)
  iapply Hk
  iframe HF Hg HZ HO

theorem part12 {v9 : BitVec 32} {Kt : Vec F S512x4096 .fp8e4m3 → sProp 𝕄} :
    iprop(ctx m K ∗ rReady c 5 ∗ wgP m c 3 0 fullShare ∗ x8P m c 0 ∗ rsE c 2 0 ∗ rrE (dia c) 2 0 ∗ sReady c 10 ∗ x8P m c 512 ∗ OW c [10, 11])
      ⊢ iprop((iprop(rZ c 5 ∗ wgS m c 3 fullShare ∗ x8P m c 0 ∗ sFly c 10 ∗ x8P m c 512 ∗ OW c [11]) -∗ Kt (rowsHi m c))
        -∗ wpc c (at' k0_part12 c v9 (scl m c)) Kt) := by
  rw [k0_part12_eq_skeleton]; unfold k0_part12_skel rowsHi
  simp only [Prog.lift, Prog.bind_op, Prog.bind_ret, Prog.pure_eq_ret]
  iintro ⟨#Hc, Hr, Hg, Hx, Hrs, Hd, Hs, Hx', HO⟩ Hk
  iapply (recv_got m K c 5 [10, 11] (wgP m c 3 2048 fullShare) iprop(emp) rfl rfl (by decide) (sem_recv (by decide) _ _) rfl) $$ [Hr HO]
  · iframe Hc Hr HO
  iintro ⟨Hg', He, HZ, HO⟩
  ihave Hg := (wgS_join m c 3 fullShare) $$ [Hg Hg']
  · iframe Hg Hg'
  iapply (ld_x8 m c 0) $$ Hx
  iintro Hx
  iapply (ld_wgS m c 3 fullShare) $$ Hg
  iintro Hg
  iapply (ldE_rs c 2 0) $$ Hrs
  iintro %v Hrs
  iapply (st_rs m c 2 0 (by intro x; exact res_val m c 3 2 rfl 0 0 rfl x)) $$ Hrs
  iintro Hrs
  iapply (rs_send m K c 10 [11] 2 0 (dev_dia c (k0_dev13_eq c)) (by decide) (dia_dia c) rfl rfl rfl
    (sem_send (by decide) _ _) (sem_recv (by decide) _ _)) $$ [Hrs Hd Hs HO]
  · iframe Hc Hrs Hd Hs HO
  iintro ⟨HF, HO⟩
  iapply (ld_x8 m c 512) $$ Hx'
  iintro Hx'
  iapply (wpc_ret c)
  iapply Hk
  iframe HZ Hg Hx HF Hx' HO

theorem part13 {v7 v9 : BitVec 32} {Kt : Vec F S1x512x512 .bf16 → sProp 𝕄} :
    iprop(ctx m K ∗ wgS m c 3 fullShare ∗ rsE c 2 512 ∗ rrE (dia c) 2 512 ∗ sReady c 11 ∗ rReady c 6 ∗ OW c [11])
      ⊢ iprop((iprop(wgS m c 3 fullShare ∗ sFly c 11 ∗ rZ c 6 ∗ rrP m c 0 0 ∗ OW c []) -∗ Kt (gotPrv m c))
        -∗ wpc c (at' k0_part13 c v7 v9 (scl m c) (rowsHi m c)) Kt) := by
  rw [k0_part13_eq_skeleton]; unfold k0_part13_skel gotPrv
  simp only [Prog.lift, Prog.bind_op, Prog.bind_ret, Prog.pure_eq_ret]
  iintro ⟨#Hc, Hg, Hrs, Hd, Hs, Hr, HO⟩ Hk
  iapply (ld_wgS m c 3 fullShare) $$ Hg
  iintro Hg
  iapply (ldE_rs c 2 512) $$ Hrs
  iintro %v Hrs
  iapply (st_rs m c 2 512 (by intro x; exact res_val m c 3 2 rfl 1 512 rfl x)) $$ Hrs
  iintro Hrs
  iapply (rs_send m K c 11 [] 2 512 (dev_dia c (k0_dev14_eq c)) (by decide) (dia_dia c) rfl rfl rfl
    (sem_send (by decide) _ _) (sem_recv (by decide) _ _)) $$ [Hrs Hd Hs HO]
  · iframe Hc Hrs Hd Hs HO
  iintro ⟨HF, HO⟩
  iapply (recv_got m K c 6 [] (rrP m c 0 0) iprop(emp) rfl rfl (by decide) (sem_recv (by decide) _ _) rfl) $$ [Hr HO]
  · iframe Hc Hr HO
  iintro ⟨Hrr, He, HZ, HO⟩
  iapply (ld_rr m c 0 0) $$ Hrr
  iintro Hrr
  iapply (wpc_ret c)
  iapply Hk
  iframe Hg HF HZ Hrr HO

end Cert.KProof

end
-- ==== Proof.Finish.lean ====
/-
  The parts that put the received blocks out and wait for everything still in flight; the whole body.
-/
module

public import proofs.«01_k».proof.Proof.Middle

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-- A received block, as an output slot takes it. -/
theorem got_val (t : Fin 3) (h : Fin 2) (r a : ℕ) (hr : r = 512 * h.val) {inb inb'} (x : S1x512x512.Idx) :
    k0_pay17 (fun x => rrF m c ((Rect.unit (s := S3x1024x512) ![t.val, r, 0] S1x512x512.size inb).emb x)) x
      = osF m c (resFrom t.val c) h ((Rect.unit (s := S4x512x512) ![a, 0, 0] S1x512x512.size inb').emb x) :=
  put_got m c t.val (resFrom_ne c t) h r a hr inb inb' x

theorem part14 {v5 v7 : BitVec 32} {Kt : PUnit → sProp 𝕄} :
    iprop(ctx m K ∗ osE c 2 ∗ oE c (prv c) 0 ∗ oZ c 2 ∗ rReady c 8 ∗ osE c 3 ∗ OW c [])
      ⊢ iprop((iprop(oFly m c 2 2 (prv c) 0 ∗ rZ c 8 ∗ rrP m c 1 0 ∗ osP m c 3 (nxt c) 0 ∗ OW c []) -∗ Kt ⟨⟩)
        -∗ wpc c (at' k0_part14 c v5 v7 (gotPrv m c)) Kt) := by
  rw [k0_part14_eq_skeleton]; unfold k0_part14_skel oZ
  simp only [Prog.lift, Prog.bind_op, Prog.bind_ret, Prog.pure_eq_ret]
  iintro ⟨#Hc, Hs, Ho, Hz, Hr, Hs', HO⟩ Hk
  iapply (ldE_os c 2) $$ Hs
  iintro %v Hs
  iapply (st_os m c 2 (prv c) 0 (by intro x; exact got_val m c 0 0 0 2 rfl x)) $$ Hs
  iintro Hs
  iapply (out_start m c 2 2 (prv c) 0 (k0_off2_eq c 0) (sem_out (by decide) _ _)) $$ [Hs Ho Hz]
  · iframe Hs Ho Hz
  iintro Hf
  iapply (recv_got m K c 8 [] (rrP m c 1 0) iprop(emp) rfl rfl (by decide) (sem_recv (by decide) _ _) rfl) $$ [Hr HO]
  · iframe Hc Hr HO
  iintro ⟨Hrr, He, HZ, HO⟩
  iapply (ld_rr m c 1 0) $$ Hrr
  iintro Hrr
  iapply (ldE_os c 3) $$ Hs'
  iintro %v Hs'
  iapply (st_os m c 3 (nxt c) 0 (by intro x; exact got_val m c 1 0 0 3 rfl x)) $$ Hs'
  iintro Hs'
  iapply (wpc_ret c)
  iapply Hk
  iframe Hf HZ Hrr Hs' HO

omit [FloatOps F] in
theorem osP_any [FloatOps F] (a : ℕ) (d : Dev nD) (h : Fin 2) : osP m c a d h ⊢ osE c a := by
  unfold osP osE; iintro H; iexists _; iexact H

theorem part15 {v5 v7 : BitVec 32} {Kt : PUnit → sProp 𝕄} :
    iprop(ctx m K ∗ osP m c 3 (nxt c) 0 ∗ oE c (nxt c) 0 ∗ oZ c 3 ∗ rReady c 7 ∗ oFly m c 0 0 c 0 ∗ OW c [])
      ⊢ iprop((iprop(oFly m c 3 3 (nxt c) 0 ∗ rZ c 7 ∗ rrP m c 0 512 ∗ oP m c c 0 ∗ osP m c 0 (prv c) 1 ∗ oZ c 0 ∗ OW c []) -∗ Kt ⟨⟩)
        -∗ wpc c (at' k0_part15 c v5 v7) Kt) := by
  rw [k0_part15_eq_skeleton]; unfold k0_part15_skel
  simp only [Prog.lift, Prog.bind_op, Prog.bind_ret, Prog.pure_eq_ret]
  iintro ⟨#Hc, Hs, Ho, Hz, Hr, Hf, HO⟩ Hk
  iapply (out_start m c 3 3 (nxt c) 0 (k0_off3_eq c 0 0) (sem_out (by decide) _ _)) $$ [Hs Ho Hz]
  · unfold oZ; iframe Hs Ho Hz
  iintro Hf3
  iapply (recv_got m K c 7 [] (rrP m c 0 512) iprop(emp) rfl rfl (by decide) (sem_recv (by decide) _ _) rfl) $$ [Hr HO]
  · iframe Hc Hr HO
  iintro ⟨Hrr, He, HZ, HO⟩
  iapply (ld_rr m c 0 512) $$ Hrr
  iintro Hrr
  iapply (out_wait m K c [] 0 0 c 0 (sem_out (by decide) _ _)) $$ [Hf HO]
  · iframe Hc Hf HO
  iintro ⟨Ho, Hs, Hz, HO⟩
  ihave Hs := (osP_any m c 0 c 0) $$ Hs
  iapply (ldE_os c 0) $$ Hs
  iintro %v Hs
  iapply (st_os m c 0 (prv c) 1 (by intro x; exact got_val m c 0 1 512 0 rfl x)) $$ Hs
  iintro Hs
  iapply (wpc_ret c)
  iapply Hk
  iframe Hf3 HZ Hrr Ho Hs Hz HO

theorem part16 {v7 : BitVec 32} {Kt : PUnit → sProp 𝕄} :
    iprop(ctx m K ∗ osP m c 0 (prv c) 1 ∗ oE c (prv c) 1 ∗ oZ c 0 ∗ rReady c 9 ∗ oFly m c 1 1 c 1 ∗ OW c [])
      ⊢ iprop((iprop(oFly m c 0 0 (prv c) 1 ∗ rZ c 9 ∗ rrP m c 1 512 ∗ oP m c c 1 ∗ osP m c 1 (nxt c) 1 ∗ oZ c 1 ∗ OW c []) -∗ Kt ⟨⟩)
        -∗ wpc c (at' k0_part16 c v7) Kt) := by
  rw [k0_part16_eq_skeleton]; unfold k0_part16_skel
  simp only [Prog.lift, Prog.bind_op, Prog.bind_ret, Prog.pure_eq_ret]
  iintro ⟨#Hc, Hs, Ho, Hz, Hr, Hf, HO⟩ Hk
  iapply (out_start m c 0 0 (prv c) 1 (k0_off2_eq c 1) (sem_out (by decide) _ _)) $$ [Hs Ho Hz]
  · unfold oZ; iframe Hs Ho Hz
  iintro Hf3
  iapply (recv_got m K c 9 [] (rrP m c 1 512) iprop(emp) rfl rfl (by decide) (sem_recv (by decide) _ _) rfl) $$ [Hr HO]
  · iframe Hc Hr HO
  iintro ⟨Hrr, He, HZ, HO⟩
  iapply (ld_rr m c 1 512) $$ Hrr
  iintro Hrr
  iapply (out_wait m K c [] 1 1 c 1 (sem_out (by decide) _ _)) $$ [Hf HO]
  · iframe Hc Hf HO
  iintro ⟨Ho, Hs, Hz, HO⟩
  ihave Hs := (osP_any m c 1 c 1) $$ Hs
  iapply (ldE_os c 1) $$ Hs
  iintro %v Hs
  iapply (st_os m c 1 (nxt c) 1 (by intro x; exact got_val m c 1 1 512 1 rfl x)) $$ Hs
  iintro Hs
  iapply (wpc_ret c)
  iapply Hk
  iframe Hf3 HZ Hrr Ho Hs Hz HO

theorem part17 {v7 v9 : BitVec 32} {Kt : PUnit → sProp 𝕄} :
    iprop(ctx m K ∗ osP m c 1 (nxt c) 1 ∗ oE c (nxt c) 1 ∗ oZ c 1 ∗ rReady c 10 ∗ oFly m c 2 2 (prv c) 0 ∗ OW c [])
      ⊢ iprop((iprop(oFly m c 1 1 (nxt c) 1 ∗ rZ c 10 ∗ rrP m c 2 0 ∗ oP m c (prv c) 0 ∗ osP m c 2 (dia c) 0 ∗ oZ c 2 ∗ OW c []) -∗ Kt ⟨⟩)
        -∗ wpc c (at' k0_part17 c v7 v9) Kt) := by
  rw [k0_part17_eq_skeleton]; unfold k0_part17_skel
  simp only [Prog.lift, Prog.bind_op, Prog.bind_ret, Prog.pure_eq_ret]
  iintro ⟨#Hc, Hs, Ho, Hz, Hr, Hf, HO⟩ Hk
  iapply (out_start m c 1 1 (nxt c) 1 (k0_off3_eq c 0 1) (sem_out (by decide) _ _)) $$ [Hs Ho Hz]
  · unfold oZ; iframe Hs Ho Hz
  iintro Hf3
  iapply (recv_got m K c 10 [] (rrP m c 2 0) iprop(emp) rfl rfl (by decide) (sem_recv (by decide) _ _) rfl) $$ [Hr HO]
  · iframe Hc Hr HO
  iintro ⟨Hrr, He, HZ, HO⟩
  iapply (ld_rr m c 2 0) $$ Hrr
  iintro Hrr
  iapply (out_wait m K c [] 2 2 (prv c) 0 (sem_out (by decide) _ _)) $$ [Hf HO]
  · iframe Hc Hf HO
  iintro ⟨Ho, Hs, Hz, HO⟩
  ihave Hs := (osP_any m c 2 (prv c) 0) $$ Hs
  iapply (ldE_os c 2) $$ Hs
  iintro %v Hs
  iapply (st_os m c 2 (dia c) 0 (by intro x; exact got_val m c 2 0 0 2 rfl x)) $$ Hs
  iintro Hs
  iapply (wpc_ret c)
  iapply Hk
  iframe Hf3 HZ Hrr Ho Hs Hz HO

theorem part18 {v7 v9 : BitVec 32} {Kt : PUnit → sProp 𝕄} :
    iprop(ctx m K ∗ osP m c 2 (dia c) 0 ∗ oE c (dia c) 0 ∗ oZ c 2 ∗ rReady c 11 ∗ oFly m c 3 3 (nxt c) 0 ∗ OW c [])
      ⊢ iprop((iprop(oFly m c 2 2 (dia c) 0 ∗ rZ c 11 ∗ rrP m c 2 512 ∗ oP m c (nxt c) 0 ∗ osP m c 3 (dia c) 1 ∗ oZ c 3 ∗ OW c []) -∗ Kt ⟨⟩)
        -∗ wpc c (at' k0_part18 c v7 v9) Kt) := by
  rw [k0_part18_eq_skeleton]; unfold k0_part18_skel
  simp only [Prog.lift, Prog.bind_op, Prog.bind_ret, Prog.pure_eq_ret]
  iintro ⟨#Hc, Hs, Ho, Hz, Hr, Hf, HO⟩ Hk
  iapply (out_start m c 2 2 (dia c) 0 (k0_off3_eq c 1 0) (sem_out (by decide) _ _)) $$ [Hs Ho Hz]
  · unfold oZ; iframe Hs Ho Hz
  iintro Hf3
  iapply (recv_got m K c 11 [] (rrP m c 2 512) iprop(emp) rfl rfl (by decide) (sem_recv (by decide) _ _) rfl) $$ [Hr HO]
  · iframe Hc Hr HO
  iintro ⟨Hrr, He, HZ, HO⟩
  iapply (ld_rr m c 2 512) $$ Hrr
  iintro Hrr
  iapply (out_wait m K c [] 3 3 (nxt c) 0 (sem_out (by decide) _ _)) $$ [Hf HO]
  · iframe Hc Hf HO
  iintro ⟨Ho, Hs, Hz, HO⟩
  ihave Hs := (osP_any m c 3 (nxt c) 0) $$ Hs
  iapply (ldE_os c 3) $$ Hs
  iintro %v Hs
  iapply (st_os m c 3 (dia c) 1 (by intro x; exact got_val m c 2 1 512 3 rfl x)) $$ Hs
  iintro Hs
  iapply (wpc_ret c)
  iapply Hk
  iframe Hf3 HZ Hrr Ho Hs Hz HO

theorem part19 {Kt : PUnit → sProp 𝕄} :
    iprop(ctx m K ∗ osP m c 3 (dia c) 1 ∗ oE c (dia c) 1 ∗ oZ c 3 ∗ sFly c 0 ∗ sFly c 2 ∗ sFly c 1 ∗ OW c [])
      ⊢ iprop((iprop(oFly m c 3 3 (dia c) 1 ∗ sZ c 0 ∗ wgP m c 0 0 qR ∗ sZ c 2 ∗ wgP m c 0 0 qL ∗ sZ c 1 ∗ wgP m c 0 2048 qR ∗ OW c []) -∗ Kt ⟨⟩)
        -∗ wpc c (at' k0_part19 c) Kt) := by
  rw [k0_part19_eq_skeleton]; unfold k0_part19_skel
  simp only [Prog.lift, Prog.bind_op, Prog.bind_ret, Prog.pure_eq_ret]
  iintro ⟨#Hc, Hs, Ho, Hz, H0, H2, H1, HO⟩ Hk
  iapply (out_start m c 3 3 (dia c) 1 (k0_off3_eq c 1 1) (sem_out (by decide) _ _)) $$ [Hs Ho Hz]
  · unfold oZ; iframe Hs Ho Hz
  iintro Hf3
  iapply (send_got m K c 0 (wgP m c 0 0 qR) rfl (sem_send (by decide) _ _) rfl) $$ [H0 HO]
  · iframe Hc H0 HO
  iintro ⟨Hg0, HZ0, HO⟩
  iapply (send_got m K c 2 (wgP m c 0 0 qL) rfl (sem_send (by decide) _ _) rfl) $$ [H2 HO]
  · iframe Hc H2 HO
  iintro ⟨Hg2, HZ2, HO⟩
  iapply (send_got m K c 1 (wgP m c 0 2048 qR) rfl (sem_send (by decide) _ _) rfl) $$ [H1 HO]
  · iframe Hc H1 HO
  iintro ⟨Hg1, HZ1, HO⟩
  iapply (wpc_ret c)
  iapply Hk
  iframe Hf3 HZ0 Hg0 HZ2 Hg2 HZ1 Hg1 HO

theorem part20 {Kt : PUnit → sProp 𝕄} :
    iprop(ctx m K ∗ sFly c 3 ∗ sFly c 4 ∗ sFly c 5 ∗ sFly c 6 ∗ OW c [])
      ⊢ iprop((iprop(sZ c 3 ∗ wgP m c 0 2048 qL ∗ sZ c 4 ∗ wgP m c 1 0 qT ∗ sZ c 5 ∗ wgP m c 2 2048 qT ∗ sZ c 6 ∗ rsP m c 0 0 ∗ OW c []) -∗ Kt ⟨⟩)
        -∗ wpc c (at' k0_part20) Kt) := by
  rw [k0_part20_eq_skeleton]; unfold k0_part20_skel
  simp only [Prog.lift, Prog.bind_op, Prog.bind_ret, Prog.pure_eq_ret]
  iintro ⟨#Hc, H3, H4, H5, H6, HO⟩ Hk
  iapply (send_got m K c 3 (wgP m c 0 2048 qL) rfl (sem_send (by decide) _ _) rfl) $$ [H3 HO]
  · iframe Hc H3 HO
  iintro ⟨Hg3, HZ3, HO⟩
  iapply (send_got m K c 4 (wgP m c 1 0 qT) rfl (sem_send (by decide) _ _) rfl) $$ [H4 HO]
  · iframe Hc H4 HO
  iintro ⟨Hg4, HZ4, HO⟩
  iapply (send_got m K c 5 (wgP m c 2 2048 qT) rfl (sem_send (by decide) _ _) rfl) $$ [H5 HO]
  · iframe Hc H5 HO
  iintro ⟨Hg5, HZ5, HO⟩
  iapply (send_got m K c 6 (rsP m c 0 0) rfl (sem_send (by decide) _ _) rfl) $$ [H6 HO]
  · iframe Hc H6 HO
  iintro ⟨Hg6, HZ6, HO⟩
  iapply (wpc_ret c)
  iapply Hk
  iframe HZ3 Hg3 HZ4 Hg4 HZ5 Hg5 HZ6 Hg6 HO

theorem part21 {Kt : PUnit → sProp 𝕄} :
    iprop(ctx m K ∗ sFly c 8 ∗ sFly c 7 ∗ sFly c 9 ∗ sFly c 10 ∗ OW c [])
      ⊢ iprop((iprop(sZ c 8 ∗ rsP m c 1 0 ∗ sZ c 7 ∗ rsP m c 0 512 ∗ sZ c 9 ∗ rsP m c 1 512 ∗ sZ c 10 ∗ rsP m c 2 0 ∗ OW c []) -∗ Kt ⟨⟩)
        -∗ wpc c (at' k0_part21) Kt) := by
  rw [k0_part21_eq_skeleton]; unfold k0_part21_skel
  simp only [Prog.lift, Prog.bind_op, Prog.bind_ret, Prog.pure_eq_ret]
  iintro ⟨#Hc, H8, H7, H9, H10, HO⟩ Hk
  iapply (send_got m K c 8 (rsP m c 1 0) rfl (sem_send (by decide) _ _) rfl) $$ [H8 HO]
  · iframe Hc H8 HO
  iintro ⟨Hg8, HZ8, HO⟩
  iapply (send_got m K c 7 (rsP m c 0 512) rfl (sem_send (by decide) _ _) rfl) $$ [H7 HO]
  · iframe Hc H7 HO
  iintro ⟨Hg7, HZ7, HO⟩
  iapply (send_got m K c 9 (rsP m c 1 512) rfl (sem_send (by decide) _ _) rfl) $$ [H9 HO]
  · iframe Hc H9 HO
  iintro ⟨Hg9, HZ9, HO⟩
  iapply (send_got m K c 10 (rsP m c 2 0) rfl (sem_send (by decide) _ _) rfl) $$ [H10 HO]
  · iframe Hc H10 HO
  iintro ⟨Hg10, HZ10, HO⟩
  iapply (wpc_ret c)
  iapply Hk
  iframe HZ8 Hg8 HZ7 Hg7 HZ9 Hg9 HZ10 Hg10 HO

end Cert.KProof

end
-- ==== Proof.Body.lean ====
/-
  The whole body, from everything a device starts with to everything it ends with.
-/
module

public import proofs.«01_k».proof.Proof.Finish

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-- The argument blocks, in halves. -/
def argP : sProp 𝕄 := iprop(wP m c 0 ∗ wP m c 2048 ∗ xP m c 0 ∗ xP m c 512)
/-- The buffers the device keeps to itself, in the pieces it uses, at any contents. -/
def ownE : sProp 𝕄 := iprop((wsE c 0 ∗ wsE c 1) ∗ (xsE c 0 ∗ xsE c 1) ∗ (wgE c 0 0 ∗ wgE c 0 2048) ∗ (x8E c 0 ∗ x8E c 512)
  ∗ (osE c 0 ∗ osE c 1 ∗ osE c 2 ∗ osE c 3) ∗ (rsE c 0 0 ∗ rsE c 0 512 ∗ rsE c 1 0 ∗ rsE c 1 512 ∗ rsE c 2 0 ∗ rsE c 2 512))
/-- The result, by origin and half, before; -/
def resE : sProp 𝕄 := iprop(oE c c 0 ∗ oE c c 1 ∗ oE c (prv c) 0 ∗ oE c (prv c) 1 ∗ oE c (nxt c) 0 ∗ oE c (nxt c) 1 ∗ oE c (dia c) 0 ∗ oE c (dia c) 1)
/-- and after. -/
def resP : sProp 𝕄 := iprop(oP m c c 0 ∗ oP m c c 1 ∗ oP m c (prv c) 0 ∗ oP m c (prv c) 1 ∗ oP m c (nxt c) 0 ∗ oP m c (nxt c) 1 ∗ oP m c (dia c) 0 ∗ oP m c (dia c) 1)
/-- The free semaphores of the local transfers. -/
def locZ : sProp 𝕄 := iprop((lZ c 0 ∗ lZ c 1 ∗ lZ c 2 ∗ lZ c 3) ∗ oZ c 0 ∗ oZ c 1 ∗ oZ c 2 ∗ oZ c 3)
/-- Every transfer ready to go out; -/
def outReady : sProp 𝕄 := iprop(sReady c 0 ∗ sReady c 1 ∗ sReady c 2 ∗ sReady c 3 ∗ sReady c 4 ∗ sReady c 5 ∗ sReady c 6 ∗ sReady c 7 ∗ sReady c 8 ∗ sReady c 9 ∗ sReady c 10 ∗ sReady c 11)
/-- to come in; -/
def inReady : sProp 𝕄 := iprop(rReady c 0 ∗ rReady c 1 ∗ rReady c 2 ∗ rReady c 3 ∗ rReady c 4 ∗ rReady c 5 ∗ rReady c 6 ∗ rReady c 7 ∗ rReady c 8 ∗ rReady c 9 ∗ rReady c 10 ∗ rReady c 11)
/-- gone out; -/
def outDone : sProp 𝕄 := iprop(sZ c 0 ∗ sZ c 1 ∗ sZ c 2 ∗ sZ c 3 ∗ sZ c 4 ∗ sZ c 5 ∗ sZ c 6 ∗ sZ c 7 ∗ sZ c 8 ∗ sZ c 9 ∗ sZ c 10 ∗ sZ c 11)
/-- come in. -/
def inDone : sProp 𝕄 := iprop(rZ c 0 ∗ rZ c 1 ∗ rZ c 2 ∗ rZ c 3 ∗ rZ c 4 ∗ rZ c 5 ∗ rZ c 6 ∗ rZ c 7 ∗ rZ c 8 ∗ rZ c 9 ∗ rZ c 10 ∗ rZ c 11)
/-- The gather buffer in the shares it comes back in. -/
def wgBack : sProp 𝕄 := iprop((wgS m c 0 qK ∗ wgP m c 0 0 qR ∗ wgP m c 0 0 qL ∗ wgP m c 0 2048 qR ∗ wgP m c 0 2048 qL)
  ∗ (wgS m c 1 qK ∗ wgP m c 1 0 qT ∗ wgP m c 1 2048 qT) ∗ (wgS m c 2 qK ∗ wgP m c 2 0 qT ∗ wgP m c 2 2048 qT) ∗ wgS m c 3 fullShare)
/-- The other buffers, in pieces, written. -/
def ownP : sProp 𝕄 := iprop((wsP m c 0 ∗ wsP m c 1) ∗ (xsP m c 0 ∗ xsP m c 1) ∗ (x8P m c 0 ∗ x8P m c 512)
  ∗ (osP m c 0 (prv c) 1 ∗ osP m c 1 (nxt c) 1 ∗ osP m c 2 (dia c) 0 ∗ osP m c 3 (dia c) 1)
  ∗ (rsP m c 0 0 ∗ rsP m c 0 512 ∗ rsP m c 1 0 ∗ rsP m c 1 512 ∗ rsP m c 2 0 ∗ rsP m c 2 512)
  ∗ (rrP m c 0 0 ∗ rrP m c 0 512 ∗ rrP m c 1 0 ∗ rrP m c 1 512 ∗ rrP m c 2 0 ∗ rrP m c 2 512))

/-- What a device starts with, -/
def bodyIn : sProp 𝕄 := iprop(bReady c ∗ (toPrv c ∗ toNxt c) ∗ argP m c ∗ sclP m c ∗ ownE c ∗ resE c ∗ locZ c ∗ outReady c ∗ inReady c)
/-- and ends with. -/
def bodyOut : sProp 𝕄 := iprop(semVal (barCell c) 0 ∗ argP m c ∗ sclP m c ∗ wgBack m c ∗ ownP m c ∗ resP m c ∗ locZ c ∗ outDone c ∗ inDone c ∗ OW c [])

set_option maxHeartbeats 4000000 in
theorem body {Q : PUnit → sProp 𝕄} :
    iprop(ctx m K ∗ bodyIn m c) ⊢ iprop((bodyOut m c -∗ Q ⟨⟩) -∗ wpc c (at' cc0_body) Q) := by
  rw [cc0_body_eq_skeleton]; unfold cc0_body_skel
  rw [k0_part22_eq_skeleton]; unfold k0_part22_skel
  simp only [Prog.lift, Prog.bind_op, Prog.bind_ret, Prog.pure_eq_ret]
  unfold bodyIn argP ownE resE locZ outReady inReady
  iintro ⟨#Hc, Hb, ⟨HP, HN⟩, ⟨Hw, Hw', Hx, Hx'⟩, Hscl, ⟨⟨Hws, Hws'⟩, ⟨Hxs, Hxs'⟩, ⟨Hg, Hg'⟩, ⟨Hx8, Hx8'⟩, ⟨Hos0, Hos1, Hos2, Hos3⟩, ⟨Hrs00, Hrs01, Hrs10, Hrs11, Hrs20, Hrs21⟩⟩,
    ⟨Hoc0, Hoc1, Hop0, Hop1, Hon0, Hon1, Hod0, Hod1⟩, ⟨⟨Hl0, Hl1, Hl2, Hl3⟩, Hz0, Hz1, Hz2, Hz3⟩,
    ⟨Hs0, Hs1, Hs2, Hs3, Hs4, Hs5, Hs6, Hs7, Hs8, Hs9, Hs10, Hs11⟩, ⟨Hr0, Hr1, Hr2, Hr3, Hr4, Hr5, Hr6, Hr7, Hr8, Hr9, Hr10, Hr11⟩⟩ Hk
  iapply (wpc_bind c)
  iapply (wpc_bind c)
  iapply (part1 m K c) $$ [Hb HP HN Hw Hws Hl0]
  · iframe Hc Hb HP HN Hw Hws Hl0
  iintro %v2 %v5 %v7 %v9 ⟨HN, HP, Hbar, Hws, Hw, Hl0, HO⟩
  dsimp only
  unfold toNxt toPrv
  icases HN with ⟨Hd2, Hd3, Hd5, Hd8, Hd9⟩
  icases HP with ⟨Hd0, Hd1, Hd4, Hd6, Hd7, Hv, Hv'⟩
  iapply (wpc_bind c)
  iapply (part2 m c) $$ [Hw' Hws' Hl1 Hx Hxs Hl2 Hx' Hxs' Hl3 Hws Hg]
  · iframe Hw' Hws' Hl1 Hx Hxs Hl2 Hx' Hxs' Hl3 Hws Hg
  iintro ⟨Hf1, Hf2, Hf3, Hws, Hg⟩
  iapply (wpc_bind c)
  iapply (part3 m K c) $$ [Hg Hd0 Hs0 Hd2 Hv Hv' Hs2 HO Hf1 Hg']
  · iframe Hc Hg Hd0 Hs0 Hd2 Hv Hv' Hs2 HO Hf1 Hg'
  iintro ⟨Hg, Hs0, Hs2, HO, Hws', Hw', Hl1, Hg'⟩
  iapply (wpc_bind c)
  iapply (part4 m K c) $$ [Hg' Hd1 Hs1 Hd3 Hs3 HO Hf2 Hx8]
  · iframe Hc Hg' Hd1 Hs1 Hd3 Hs3 HO Hf2 Hx8
  iintro ⟨Hg', Hs1, Hs3, HO, Hxs, Hx, Hl2, Hx8⟩
  ihave Hg0 := (wgS_join m c 0 qK) $$ [Hg Hg']
  · iframe Hg Hg'
  iapply (wpc_bind c)
  iapply (part5 m K c) $$ [Hx8 Hf3 Hx8' Hscl Hg0 Hos0 HO]
  · iframe Hc Hx8 Hf3 Hx8' Hscl Hg0 Hos0 HO
  iintro ⟨Hx8, Hx8', Hxs', Hx', Hl3, Hscl, Hg0, Hos0, HO⟩
  iapply (wpc_bind c)
  iapply (part6 m c) $$ [Hos0 Hoc0 Hz0 Hx8' Hg0 Hos1 Hoc1 Hz1]
  · iframe Hos0 Hoc0 Hz0 Hx8' Hg0 Hos1 Hoc1 Hz1
  iintro ⟨Ho0, Hx8', Hg0, Ho1⟩
  iapply (wpc_bind c)
  iapply (part7 m K c) $$ [Hr0 Hd4 Hs4 Hr3 HO]
  · iframe Hc Hr0 Hd4 Hs4 Hr3 HO
  iintro ⟨Hr0, Hg10, Hs4, Hr3, Hg21, HO⟩
  iapply (wpc_bind c)
  iapply (part8 m K c) $$ [Hg21 Hd5 Hs5 Hr2 Hr1 Hg10 Hx8 Hrs00 HO]
  · iframe Hc Hg21 Hd5 Hs5 Hr2 Hr1 Hg10 Hx8 Hrs00 HO
  iintro %v219 ⟨Hs5, Hr2, Hr1, Hg2, Hg2t, Hg1, Hg1t, Hride, Hx8, Hrs00, HO⟩
  ihave H := (ride_got c) $$ Hride
  icases H with ⟨Hd10, Hd11⟩
  dsimp only
  iapply (wpc_bind c)
  iapply (part9 m K c) $$ [Hrs00 Hd6 Hs6 Hx8 Hg1 Hrs10 HO]
  · iframe Hc Hrs00 Hd6 Hs6 Hx8 Hg1 Hrs10 HO
  iintro ⟨Hs6, Hx8, Hg1, Hrs10, HO⟩
  iapply (wpc_bind c)
  iapply (part10 m K c) $$ [Hrs10 Hd8 Hs8 Hx8' Hg2 Hrs01 Hd7 Hs7 Hg1 HO]
  · iframe Hc Hrs10 Hd8 Hs8 Hx8' Hg2 Hrs01 Hd7 Hs7 Hg1 HO
  iintro ⟨Hs8, Hx8', Hg2, Hs7, Hg1, HO⟩
  iapply (wpc_bind c)
  iapply (part11 m K c) $$ [Hrs11 Hd9 Hs9 Hr4 HO]
  · iframe Hc Hrs11 Hd9 Hs9 Hr4 HO
  iintro ⟨Hs9, Hg3, Hr4, HO⟩
  iapply (wpc_bind c)
  iapply (part12 m K c) $$ [Hr5 Hg3 Hx8 Hrs20 Hd10 Hs10 Hx8' HO]
  · iframe Hc Hr5 Hg3 Hx8 Hrs20 Hd10 Hs10 Hx8' HO
  iintro ⟨Hr5, Hg3, Hx8, Hs10, Hx8', HO⟩
  iapply (wpc_bind c)
  iapply (part13 m K c) $$ [Hg3 Hrs21 Hd11 Hs11 Hr6 HO]
  · iframe Hc Hg3 Hrs21 Hd11 Hs11 Hr6 HO
  iintro ⟨Hg3, Hs11, Hr6, Hrr00, HO⟩
  iapply (wpc_bind c)
  iapply (part14 m K c) $$ [Hos2 Hop0 Hz2 Hr8 Hos3 HO]
  · iframe Hc Hos2 Hop0 Hz2 Hr8 Hos3 HO
  iintro ⟨Ho2, Hr8, Hrr10, Hos3, HO⟩
  iapply (wpc_bind c)
  iapply (part15 m K c) $$ [Hos3 Hon0 Hz3 Hr7 Ho0 HO]
  · iframe Hc Hos3 Hon0 Hz3 Hr7 Ho0 HO
  iintro ⟨Ho3, Hr7, Hrr01, Hoc0, Hos0, Hz0, HO⟩
  iapply (wpc_bind c)
  iapply (part16 m K c) $$ [Hos0 Hop1 Hz0 Hr9 Ho1 HO]
  · iframe Hc Hos0 Hop1 Hz0 Hr9 Ho1 HO
  iintro ⟨Ho0, Hr9, Hrr11, Hoc1, Hos1, Hz1, HO⟩
  iapply (wpc_bind c)
  iapply (part17 m K c) $$ [Hos1 Hon1 Hz1 Hr10 Ho2 HO]
  · iframe Hc Hos1 Hon1 Hz1 Hr10 Ho2 HO
  iintro ⟨Ho1, Hr10, Hrr20, Hop0, Hos2, Hz2, HO⟩
  iapply (wpc_bind c)
  iapply (part18 m K c) $$ [Hos2 Hod0 Hz2 Hr11 Ho3 HO]
  · iframe Hc Hos2 Hod0 Hz2 Hr11 Ho3 HO
  iintro ⟨Ho2, Hr11, Hrr21, Hon0, Hos3, Hz3, HO⟩
  iapply (wpc_bind c)
  iapply (part19 m K c) $$ [Hos3 Hod1 Hz3 Hs0 Hs2 Hs1 HO]
  · iframe Hc Hos3 Hod1 Hz3 Hs0 Hs2 Hs1 HO
  iintro ⟨Ho3, Hs0, Hg0a, Hs2, Hg0b, Hs1, Hg0c, HO⟩
  iapply (wpc_bind c)
  iapply (part20 m K c) $$ [Hs3 Hs4 Hs5 Hs6 HO]
  · iframe Hc Hs3 Hs4 Hs5 Hs6 HO
  iintro ⟨Hs3, Hg0d, Hs4, Hg1u, Hs5, Hg2u, Hs6, Hrs00, HO⟩
  iapply (wpc_bind c)
  iapply (part21 m K c) $$ [Hs8 Hs7 Hs9 Hs10 HO]
  · iframe Hc Hs8 Hs7 Hs9 Hs10 HO
  iintro ⟨Hs8, Hrs10, Hs7, Hrs01, Hs9, Hrs11, Hs10, Hrs20, HO⟩
  iapply (send_got m K c 11 (rsP m c 2 512) rfl (sem_send (by decide) _ _) rfl) $$ [Hs11 HO]
  · iframe Hc Hs11 HO
  iintro ⟨Hrs21, Hs11, HO⟩
  iapply (out_wait m K c [] 0 0 (prv c) 1 (sem_out (by decide) _ _)) $$ [Ho0 HO]
  · iframe Hc Ho0 HO
  iintro ⟨Hop1, Hos0, Hz0, HO⟩
  iapply (out_wait m K c [] 1 1 (nxt c) 1 (sem_out (by decide) _ _)) $$ [Ho1 HO]
  · iframe Hc Ho1 HO
  iintro ⟨Hon1, Hos1, Hz1, HO⟩
  iapply (wpc_ret c)
  iapply (out_wait m K c [] 2 2 (dia c) 0 (sem_out (by decide) _ _)) $$ [Ho2 HO]
  · iframe Hc Ho2 HO
  iintro ⟨Hod0, Hos2, Hz2, HO⟩
  iapply (out_wait m K c [] 3 3 (dia c) 1 (sem_out (by decide) _ _)) $$ [Ho3 HO]
  · iframe Hc Ho3 HO
  iintro ⟨Hod1, Hos3, Hz3, HO⟩
  iapply (wpc_ret c)
  iapply Hk
  unfold bodyOut argP wgBack ownP resP locZ outDone inDone
  iframe Hbar
  isplitl [Hw Hw' Hx Hx']
  · iframe Hw Hw' Hx Hx'
  iframe Hscl
  isplitl [Hg0 Hg0a Hg0b Hg0c Hg0d Hg1 Hg1u Hg1t Hg2 Hg2t Hg2u Hg3]
  · isplitl [Hg0 Hg0a Hg0b Hg0c Hg0d]; · iframe Hg0 Hg0a Hg0b Hg0c Hg0d
    isplitl [Hg1 Hg1u Hg1t]; · iframe Hg1 Hg1u Hg1t
    isplitl [Hg2 Hg2u Hg2t]; · iframe Hg2 Hg2t Hg2u
    iexact Hg3
  isplitl [Hws Hws' Hxs Hxs' Hx8 Hx8' Hos0 Hos1 Hos2 Hos3 Hrs00 Hrs01 Hrs10 Hrs11 Hrs20 Hrs21 Hrr00 Hrr01 Hrr10 Hrr11 Hrr20 Hrr21]
  · isplitl [Hws Hws']; · iframe Hws Hws'
    isplitl [Hxs Hxs']; · iframe Hxs Hxs'
    isplitl [Hx8 Hx8']; · iframe Hx8 Hx8'
    isplitl [Hos0 Hos1 Hos2 Hos3]; · iframe Hos0 Hos1 Hos2 Hos3
    isplitl [Hrs00 Hrs01 Hrs10 Hrs11 Hrs20 Hrs21]; · iframe Hrs00 Hrs01 Hrs10 Hrs11 Hrs20 Hrs21
    iframe Hrr00 Hrr01 Hrr10 Hrr11 Hrr20 Hrr21
  isplitl [Hoc0 Hoc1 Hop0 Hop1 Hon0 Hon1 Hod0 Hod1]
  · iframe Hoc0 Hoc1 Hop0 Hop1 Hon0 Hon1 Hod0 Hod1
  isplitl [Hl0 Hl1 Hl2 Hl3 Hz0 Hz1 Hz2 Hz3]
  · isplitl [Hl0 Hl1 Hl2 Hl3]; · iframe Hl0 Hl1 Hl2 Hl3
    iframe Hz0 Hz1 Hz2 Hz3
  isplitl [Hs0 Hs1 Hs2 Hs3 Hs4 Hs5 Hs6 Hs7 Hs8 Hs9 Hs10 Hs11]
  · iframe Hs0 Hs1 Hs2 Hs3 Hs4 Hs5 Hs6 Hs7 Hs8 Hs9 Hs10 Hs11
  isplitl [Hr0 Hr1 Hr2 Hr3 Hr4 Hr5 Hr6 Hr7 Hr8 Hr9 Hr10 Hr11]
  · iframe Hr0 Hr1 Hr2 Hr3 Hr4 Hr5 Hr6 Hr7 Hr8 Hr9 Hr10 Hr11
  iexact HO

end Cert.KProof

end
-- ==== Proof.Whole.lean ====
/-
The buffers whole and in pieces: each scratch buffer, argument and result cut into the boxes the run holds, and put together again.
-/
module

public import proofs.«01_k».proof.Proof.Body
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## A buffer by the fibres of a map on its indices -/

section
variable {B : Type} [Fintype B] [DecidableEq B] {ℓ : Loc nD τ sig} {g : Idx ℓ → B} {I : B → Finset (Idx ℓ)}

/-- A buffer at one function is its fibres at it, -/
theorem fibres (h : ∀ b i, i ∈ I b ↔ g i = b) (q : PosShare TreeShare) (f : Buf (Elt F) ℓ) :
    (ℓ ↦{q} f : sProp 𝕄) = bigSep Finset.univ fun b => ℓ ↦[I b]{q} f := by
  refine Ring.pointsTo_blocks I ?_ ?_ f
  · intro b b' hb
    refine Finset.disjoint_left.mpr fun i hi hi' => hb ?_
    rw [← (h b i).mp hi, (h b' i).mp hi']
  · ext i; simp only [Finset.mem_biUnion, Finset.mem_univ, true_and, iff_true]
    exact ⟨g i, (h _ i).mpr rfl⟩

/-- cut, each at some contents, -/
theorem fibres_cut (h : ∀ b i, i ∈ I b ↔ g i = b) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  have hb : ∀ b ∈ (Finset.univ : Finset B), (ℓ ↦[I b]{fullShare} f : sProp 𝕄) ⊢ iprop(∃ f : Buf (Elt F) ℓ, ℓ ↦[I b]{fullShare} f) := fun b _ => by iintro H; iexists f; iexact H
  iapply (show (bigSep Finset.univ fun b => (ℓ ↦[I b]{fullShare} f : sProp 𝕄)) ⊢ _ from bigSep_mono hb)
  iapply (Entails.of_eq (fibres h fullShare f)) $$ H

/-- and joined. -/
theorem fibres_join (h : ∀ b i, i ∈ I b ↔ g i = b) (f₀ : Buf (Elt F) ℓ) :
    (bigSep Finset.univ fun b => iprop(∃ f : Buf (Elt F) ℓ, ℓ ↦[I b]{fullShare} f) : sProp 𝕄) ⊢ iprop(∃ f : Buf (Elt F) ℓ, ℓ ↦{fullShare} f) := by
  refine Ring.pointsTo_blocks_join_exists I ?_ ?_ f₀
  · intro b b' hb
    refine Finset.disjoint_left.mpr fun i hi hi' => hb ?_
    rw [← (h b i).mp hi, (h b' i).mp hi']
  · ext i; simp only [Finset.mem_biUnion, Finset.mem_univ, true_and, iff_true]
    exact ⟨g i, (h _ i).mpr rfl⟩
end

/-! ## The fibres are the boxes -/

theorem wg_fibre (b : Fin 4 × Fin 2) (i : S4x4096x512.Idx) :
    i ∈ wgB b.1.val (2048 * b.2.val) ↔ ((⟨(i 0).val, (i 0).isLt⟩, ⟨(i 1).val / 2048, by have h : (i 1).val < 4096 := (i 1).isLt; omega⟩) : Fin 4 × Fin 2) = b := by
  have h1 : (i 1).val < 4096 := (i 1).isLt
  have h2 : (i 2).val < 512 := (i 2).isLt
  rw [mem_bx3, Prod.ext_iff, Fin.ext_iff, Fin.ext_iff]
  show _ ↔ (i 0).val = b.1.val ∧ (i 1).val / 2048 = b.2.val
  omega

theorem r_fibre (b : Fin 3 × Fin 2) (i : S3x1024x512.Idx) :
    i ∈ rB b.1.val (512 * b.2.val) ↔ ((⟨(i 0).val, (i 0).isLt⟩, ⟨(i 1).val / 512, by have h : (i 1).val < 1024 := (i 1).isLt; omega⟩) : Fin 3 × Fin 2) = b := by
  have h1 : (i 1).val < 1024 := (i 1).isLt
  have h2 : (i 2).val < 512 := (i 2).isLt
  rw [mem_bx3, Prod.ext_iff, Fin.ext_iff, Fin.ext_iff]
  show _ ↔ (i 0).val = b.1.val ∧ (i 1).val / 512 = b.2.val
  omega

theorem x8_fibre (b : Fin 2) (i : S1024x4096.Idx) :
    i ∈ x8B (512 * b.val) ↔ (⟨(i 0).val / 512, by have h : (i 0).val < 1024 := (i 0).isLt; omega⟩ : Fin 2) = b := by
  have h1 : (i 1).val < 4096 := (i 1).isLt
  rw [mem_bx2, Fin.ext_iff]
  show (512 * b.val ≤ (i 0).val ∧ (i 0).val < 512 * b.val + 512) ∧ (0 ≤ (i 1).val ∧ (i 1).val < 0 + 4096) ↔ (i 0).val / 512 = b.val
  omega

theorem w_fibre (b : Fin 2) (i : S4096x512.Idx) :
    i ∈ wB (2048 * b.val) ↔ (⟨(i 0).val / 2048, by have h : (i 0).val < 4096 := (i 0).isLt; omega⟩ : Fin 2) = b := by
  have h1 : (i 1).val < 512 := (i 1).isLt
  rw [mem_bx2, Fin.ext_iff]
  show (2048 * b.val ≤ (i 0).val ∧ (i 0).val < 2048 * b.val + 2048) ∧ (0 ≤ (i 1).val ∧ (i 1).val < 0 + 512) ↔ (i 0).val / 2048 = b.val
  omega

theorem xs_fibre (b : Fin 2) (i : S2x512x4096.Idx) : i ∈ xsB b.val ↔ (⟨(i 0).val, (i 0).isLt⟩ : Fin 2) = b := by
  have h1 : (i 1).val < 512 := (i 1).isLt
  have h2 : (i 2).val < 4096 := (i 2).isLt
  rw [mem_bx3, Fin.ext_iff]
  show _ ↔ (i 0).val = b.val
  omega

theorem ws_fibre (b : Fin 2) (i : S2x2048x512.Idx) : i ∈ wsB b.val ↔ (⟨(i 0).val, (i 0).isLt⟩ : Fin 2) = b := by
  have h1 : (i 1).val < 2048 := (i 1).isLt
  have h2 : (i 2).val < 512 := (i 2).isLt
  rw [mem_bx3, Fin.ext_iff]
  show _ ↔ (i 0).val = b.val
  omega

theorem os_fibre (b : Fin 4) (i : S4x512x512.Idx) : i ∈ osB b.val ↔ (⟨(i 0).val, (i 0).isLt⟩ : Fin 4) = b := by
  have h1 : (i 1).val < 512 := (i 1).isLt
  have h2 : (i 2).val < 512 := (i 2).isLt
  rw [mem_bx3, Fin.ext_iff]
  show _ ↔ (i 0).val = b.val
  omega

theorem o_fibre (b : Dev nD × Fin 2) (i : S4096x512.Idx) :
    i ∈ oB (1024 * b.1.val + 512 * b.2.val) ↔ ((⟨(i 0).val / 1024, by have h : (i 0).val < 4096 := (i 0).isLt; show _ < 4; omega⟩,
      ⟨(i 0).val % 1024 / 512, by omega⟩) : Dev nD × Fin 2) = b := by
  have h1 : (i 1).val < 512 := (i 1).isLt
  rw [mem_bx2, Prod.ext_iff, Fin.ext_iff, Fin.ext_iff]
  have h2 := b.2.isLt
  show (1024 * b.1.val + 512 * b.2.val ≤ (i 0).val ∧ (i 0).val < 1024 * b.1.val + 512 * b.2.val + 512) ∧ (0 ≤ (i 1).val ∧ (i 1).val < 0 + 512) ↔ (i 0).val / 1024 = b.1.val ∧ (i 0).val % 1024 / 512 = b.2.val
  omega

/-! ## Each buffer's pieces, listed -/

abbrev l42 : List (Fin 4 × Fin 2) := [(0, 0), (0, 1), (1, 0), (1, 1), (2, 0), (2, 1), (3, 0), (3, 1)]
abbrev l32 : List (Fin 3 × Fin 2) := [(0, 0), (0, 1), (1, 0), (1, 1), (2, 0), (2, 1)]

/-- The devices' halves, listed from device `c` on: its own, the one before, the one after, the one opposite. -/
abbrev lD : List (Dev nD × Fin 2) := [(c, 0), (c, 1), (prv c, 0), (prv c, 1), (nxt c, 0), (nxt c, 1), (dia c, 0), (dia c, 1)]

theorem lD_univ : Finset.univ = (lD c).toFinset := by revert c; decide
theorem lD_nodup : (lD c).Nodup := by revert c; decide

def wgAll : sProp 𝕄 := iprop(wgE (F := F) c 0 0 ∗ wgE c 0 2048 ∗ wgE c 1 0 ∗ wgE c 1 2048 ∗ wgE c 2 0 ∗ wgE c 2 2048 ∗ wgE c 3 0 ∗ wgE c 3 2048)
def rsAll : sProp 𝕄 := iprop(rsE (F := F) c 0 0 ∗ rsE c 0 512 ∗ rsE c 1 0 ∗ rsE c 1 512 ∗ rsE c 2 0 ∗ rsE c 2 512)
def rrAll : sProp 𝕄 := iprop(rrE (F := F) c 0 0 ∗ rrE c 0 512 ∗ rrE c 1 0 ∗ rrE c 1 512 ∗ rrE c 2 0 ∗ rrE c 2 512)
def osAll : sProp 𝕄 := iprop(osE (F := F) c 0 ∗ osE c 1 ∗ osE c 2 ∗ osE c 3)

/-- A buffer whole, at some contents. -/
abbrev some' (r : Ref sig .tc) : sProp 𝕄 := iprop(∃ f : Buf (Elt F) ((c : Thread nD τ).loc r), ((c : Thread nD τ).loc r) ↦{fullShare} f)

theorem wg_list : (bigSep Finset.univ fun b : Fin 4 × Fin 2 => iprop(∃ f : Buf (Elt F) (wgL c), wgL c ↦[wgB b.1.val (2048 * b.2.val)]{fullShare} f) : sProp 𝕄) = wgAll c := by
  rw [bigSep_univ_eq_bigSepL l42 (by decide) (by decide)]; rfl
theorem rs_list : (bigSep Finset.univ fun b : Fin 3 × Fin 2 => iprop(∃ f : Buf (Elt F) (rsL c), rsL c ↦[rB b.1.val (512 * b.2.val)]{fullShare} f) : sProp 𝕄) = rsAll c := by
  rw [bigSep_univ_eq_bigSepL l32 (by decide) (by decide)]; rfl
theorem rr_list : (bigSep Finset.univ fun b : Fin 3 × Fin 2 => iprop(∃ f : Buf (Elt F) (rrL c), rrL c ↦[rB b.1.val (512 * b.2.val)]{fullShare} f) : sProp 𝕄) = rrAll c := by
  rw [bigSep_univ_eq_bigSepL l32 (by decide) (by decide)]; rfl
theorem x8_list : (bigSep Finset.univ fun b : Fin 2 => iprop(∃ f : Buf (Elt F) (x8L c), x8L c ↦[x8B (512 * b.val)]{fullShare} f) : sProp 𝕄) = iprop(x8E c 0 ∗ x8E c 512) := by
  rw [bigSep_univ_eq_bigSepL [0, 1] (by decide) (by decide)]; rfl
theorem xs_list : (bigSep Finset.univ fun b : Fin 2 => iprop(∃ f : Buf (Elt F) (xsL c), xsL c ↦[xsB b.val]{fullShare} f) : sProp 𝕄) = iprop(xsE c 0 ∗ xsE c 1) := by
  rw [bigSep_univ_eq_bigSepL [0, 1] (by decide) (by decide)]; rfl
theorem ws_list : (bigSep Finset.univ fun b : Fin 2 => iprop(∃ f : Buf (Elt F) (wsL c), wsL c ↦[wsB b.val]{fullShare} f) : sProp 𝕄) = iprop(wsE c 0 ∗ wsE c 1) := by
  rw [bigSep_univ_eq_bigSepL [0, 1] (by decide) (by decide)]; rfl
theorem os_list : (bigSep Finset.univ fun b : Fin 4 => iprop(∃ f : Buf (Elt F) (osL c), osL c ↦[osB b.val]{fullShare} f) : sProp 𝕄) = osAll c := by
  rw [bigSep_univ_eq_bigSepL [0, 1, 2, 3] (by decide) (by decide)]; rfl
theorem oE_list : (bigSep Finset.univ fun b : Dev nD × Fin 2 => iprop(∃ f : Buf (Elt F) (oL c), oL c ↦[oB (1024 * b.1.val + 512 * b.2.val)]{fullShare} f) : sProp 𝕄)
    = resE c := by
  rw [bigSep_univ_eq_bigSepL (lD c) (lD_univ c) (lD_nodup c)]; rfl
theorem oP_list : (bigSep Finset.univ fun b : Dev nD × Fin 2 => oL c ↦[oB (1024 * b.1.val + 512 * b.2.val)]{fullShare} outF m c : sProp 𝕄) = resP m c := by
  rw [bigSep_univ_eq_bigSepL (lD c) (lD_univ c) (lD_nodup c)]; rfl
theorem oP_whole : (((c : Thread nD τ).loc main_v1) ↦{fullShare} outF m c : sProp 𝕄) = resP m c :=
  (fibres (ℓ := oL c) o_fibre fullShare (outF m c)).trans (oP_list m c)
theorem xP_list : (((c : Thread nD τ).loc main_arg0) ↦{fullShare} xA m c : sProp 𝕄) = iprop(xP m c 0 ∗ xP m c 512) := by
  refine (fibres (ℓ := ((c : Thread nD τ).loc main_arg0)) x8_fibre fullShare (xA m c)).trans ?_
  rw [bigSep_univ_eq_bigSepL [0, 1] (by decide) (by decide)]; rfl
theorem wP_list : (((c : Thread nD τ).loc main_arg1) ↦{fullShare} wA m c : sProp 𝕄) = iprop(wP m c 0 ∗ wP m c 2048) := by
  refine (fibres (ℓ := ((c : Thread nD τ).loc main_arg1)) w_fibre fullShare (wA m c)).trans ?_
  rw [bigSep_univ_eq_bigSepL [0, 1] (by decide) (by decide)]; rfl

/-! ## Cut for the run -/

theorem scratch_in :
    iprop(some' (F := F) c cc0_scratch0 ∗ some' c cc0_scratch1 ∗ some' c cc0_scratch2 ∗ some' c cc0_scratch3 ∗ some' c cc0_scratch4 ∗ some' c cc0_scratch5 ∗ some' c cc0_scratch6)
      ⊢ iprop(toPrv c ∗ toNxt c ∗ ownE c) := by
  iintro ⟨H0, H1, H2, H3, H4, H5, H6⟩
  ihave H0 := ((fibres_cut wg_fibre).trans (Entails.of_eq (wg_list c))) $$ H0
  ihave H1 := ((fibres_cut x8_fibre).trans (Entails.of_eq (x8_list c))) $$ H1
  ihave H2 := ((fibres_cut xs_fibre).trans (Entails.of_eq (xs_list c))) $$ H2
  ihave H3 := ((fibres_cut ws_fibre).trans (Entails.of_eq (ws_list c))) $$ H3
  ihave H4 := ((fibres_cut r_fibre).trans (Entails.of_eq (rs_list c))) $$ H4
  ihave H5 := ((fibres_cut r_fibre).trans (Entails.of_eq (rr_list c))) $$ H5
  ihave H6 := ((fibres_cut os_fibre).trans (Entails.of_eq (os_list c))) $$ H6
  unfold wgAll rsAll rrAll osAll toPrv toNxt ownE
  icases H0 with ⟨A00, A01, A10, A11, A20, A21, A30, A31⟩
  icases H1 with ⟨B0, B1⟩
  icases H2 with ⟨C0, C1⟩
  icases H3 with ⟨D0, D1⟩
  icases H4 with ⟨E0, E1, E2, E3, E4, E5⟩
  icases H5 with ⟨G0, G1, G2, G3, G4, G5⟩
  icases H6 with ⟨I0, I1, I2, I3⟩
  isplitl [A10 A11 A30 G0 G1 G4 G5]; · iframe A10 A11 A30 G0 G1 G4 G5
  isplitl [A20 A21 A31 G2 G3]; · iframe A20 A21 A31 G2 G3
  isplitl [D0 D1]; · iframe D0 D1
  isplitl [C0 C1]; · iframe C0 C1
  isplitl [A00 A01]; · iframe A00 A01
  isplitl [B0 B1]; · iframe B0 B1
  isplitl [I0 I1 I2 I3]; · iframe I0 I1 I2 I3
  iframe E0 E1 E2 E3 E4 E5

theorem args_in :
    iprop((((c : Thread nD τ).loc main_arg0) ↦{fullShare} xA m c) ∗ (((c : Thread nD τ).loc main_arg1) ↦{fullShare} wA m c) ∗ some' c main_v1)
      ⊢ (iprop(argP m c ∗ resE c) : sProp 𝕄) := by
  rw [xP_list, wP_list]
  iintro ⟨⟨X0, X1⟩, ⟨W0, W1⟩, H⟩
  ihave H := ((fibres_cut o_fibre).trans (Entails.of_eq (oE_list c))) $$ H
  unfold argP
  isplitr [H]; · iframe W0 W1 X0 X1
  iexact H

theorem args_out :
    (iprop(argP m c ∗ resP m c) : sProp 𝕄)
      ⊢ iprop((((c : Thread nD τ).loc main_arg0) ↦{fullShare} xA m c) ∗ (((c : Thread nD τ).loc main_arg1) ↦{fullShare} wA m c)
        ∗ (((c : Thread nD τ).loc main_v1) ↦{fullShare} outF m c)) := by
  rw [xP_list, wP_list, oP_whole]
  unfold argP
  iintro ⟨⟨W0, W1, X0, X1⟩, H⟩
  isplitl [X0 X1]; · iframe X0 X1
  isplitl [W0 W1]; · iframe W0 W1
  iexact H

/-! ## Joined after it -/

/-- A half slab's two lent shares are the one share; -/
theorem wgP_two (s r : ℕ) : iprop(wgP m c s r qL ∗ wgP m c s r qR) ⊢ wgP m c s r qT := by
  unfold wgP
  iintro ⟨H1, H2⟩
  iapply (pointsTo_share (PosShare.mem_left_op_right (fullShare.right))).2
  iframe H1 H2

/-- a slab's kept and lent shares are the slab whole, cut in halves again. -/
theorem wgS_back (s : ℕ) : iprop(wgS m c s qK ∗ wgP m c s 0 qT ∗ wgP m c s 2048 qT) ⊢ wgS m c s fullShare := by
  iintro ⟨H, H0, H1⟩
  ihave H' := (wgS_join m c s qT) $$ [H0 H1]
  · iframe H0 H1
  unfold wgS
  iapply (pointsTo_share (PosShare.mem_left_op_right fullShare)).2
  iframe H H'

theorem wgS_fibre (b : Fin 4) (i : S4x4096x512.Idx) : i ∈ wgSB b.val ↔ (⟨(i 0).val, (i 0).isLt⟩ : Fin 4) = b := by
  have h1 : (i 1).val < 4096 := (i 1).isLt
  have h2 : (i 2).val < 512 := (i 2).isLt
  rw [mem_bx3, Fin.ext_iff]
  show _ ↔ (i 0).val = b.val
  omega

theorem wgS_list : (wgL c ↦{fullShare} wgF m c : sProp 𝕄) = iprop(wgS m c 0 fullShare ∗ wgS m c 1 fullShare ∗ wgS m c 2 fullShare ∗ wgS m c 3 fullShare) := by
  refine (fibres (ℓ := (wgL c)) wgS_fibre fullShare (wgF m c)).trans ?_
  rw [bigSep_univ_eq_bigSepL [0, 1, 2, 3] (by decide) (by decide)]; rfl

theorem wg_out : wgBack m c ⊢ (some' c cc0_scratch0 : sProp 𝕄) := by
  unfold wgBack
  iintro ⟨⟨K0, R0, L0, R1, L1⟩, H1, H2, H3⟩
  ihave H0 := (wgS_back m c 0) $$ [K0 R0 L0 R1 L1]
  · isplitl [K0]; · iexact K0
    isplitl [R0 L0]
    · iapply wgP_two; iframe L0 R0
    · iapply wgP_two; iframe L1 R1
  ihave H1 := (wgS_back m c 1) $$ H1
  ihave H2 := (wgS_back m c 2) $$ H2
  iexists (wgF m c)
  iapply (Entails.of_eq (wgS_list m c).symm)
  iframe H0 H1 H2 H3

theorem osP_osE (a : ℕ) (d : Dev nD) (h : Fin 2) : osP m c a d h ⊢ osE c a := osP_any m c a d h

theorem own_out : ownP m c ⊢ (iprop(some' c cc0_scratch1 ∗ some' c cc0_scratch2 ∗ some' c cc0_scratch3 ∗ some' c cc0_scratch4 ∗ some' c cc0_scratch5 ∗ some' c cc0_scratch6) : sProp 𝕄) := by
  unfold ownP
  iintro ⟨⟨D0, D1⟩, ⟨C0, C1⟩, ⟨B0, B1⟩, ⟨I0, I1, I2, I3⟩, ⟨E0, E1, E2, E3, E4, E5⟩, G0, G1, G2, G3, G4, G5⟩
  isplitl [B0 B1]
  · iapply ((Entails.of_eq (x8_list c).symm).trans (fibres_join x8_fibre (m _)))
    isplitl [B0]; · (unfold x8P x8E; iexists _; iexact B0)
    unfold x8P x8E; iexists _; iexact B1
  isplitl [C0 C1]
  · iapply ((Entails.of_eq (xs_list c).symm).trans (fibres_join xs_fibre (m _)))
    isplitl [C0]; · (unfold xsP xsE; iexists _; iexact C0)
    unfold xsP xsE; iexists _; iexact C1
  isplitl [D0 D1]
  · iapply ((Entails.of_eq (ws_list c).symm).trans (fibres_join ws_fibre (m _)))
    isplitl [D0]; · (unfold wsP wsE; iexists _; iexact D0)
    unfold wsP wsE; iexists _; iexact D1
  isplitl [E0 E1 E2 E3 E4 E5]
  · iapply ((Entails.of_eq (rs_list c).symm).trans (fibres_join r_fibre (m _)))
    unfold rsAll
    have h (t r : ℕ) : rsP m c t r ⊢ rsE c t r := by unfold rsP rsE; iintro H; iexists _; iexact H
    isplitl [E0]; · iapply h; iexact E0
    isplitl [E1]; · iapply h; iexact E1
    isplitl [E2]; · iapply h; iexact E2
    isplitl [E3]; · iapply h; iexact E3
    isplitl [E4]; · iapply h; iexact E4
    iapply h; iexact E5
  isplitl [G0 G1 G2 G3 G4 G5]
  · iapply ((Entails.of_eq (rr_list c).symm).trans (fibres_join r_fibre (m _)))
    unfold rrAll
    have h (t r : ℕ) : rrP m c t r ⊢ rrE c t r := by unfold rrP rrE; iintro H; iexists _; iexact H
    isplitl [G0]; · iapply h; iexact G0
    isplitl [G1]; · iapply h; iexact G1
    isplitl [G2]; · iapply h; iexact G2
    isplitl [G3]; · iapply h; iexact G3
    isplitl [G4]; · iapply h; iexact G4
    iapply h; iexact G5
  iapply ((Entails.of_eq (os_list c).symm).trans (fibres_join os_fibre (m _)))
  unfold osAll
  isplitl [I0]; · iapply osP_osE; iexact I0
  isplitl [I1]; · iapply osP_osE; iexact I1
  isplitl [I2]; · iapply osP_osE; iexact I2
  iapply osP_osE; iexact I3

end Cert.KProof

end
-- ==== Proof.Ghost.lean ====
/-
The exchange's ghost state at launch: its cells' invariants, its tokens dealt to the devices that pay with them, the credit each device starts with.
-/
module

public import proofs.«01_k».proof.Proof.Whole

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores and cells by kind -/

theorem kcell_injective : Function.Injective (kcell : Dev nD × Fin 25 → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : Fin 25, csem k = csem k' → k = k' := by decide
  rw [h3 k k' h2]
def kCells : Finset (GSem nD τ sig) := Finset.univ.map ⟨kcell, kcell_injective⟩

theorem cells_split {M : Type} [URA M] (Φ : Fin 25 → sProp M) :
    bigSep Finset.univ Φ = iprop(Φ 0 ∗ (bigSep Finset.univ fun s : Fin 12 => Φ (kS s)) ∗ bigSep Finset.univ fun s : Fin 12 => Φ (kR s)) := by
  have e : (Finset.univ : Finset (Fin 25)) = insert 0 ((Finset.univ : Finset (Fin 12)).map ⟨kS, by decide⟩ ∪ (Finset.univ : Finset (Fin 12)).map ⟨kR, by decide⟩) := by decide
  rw [e, bigSep_insert (by decide), bigSep_union (by decide), bigSep_map, bigSep_map]; rfl

/-- The kernel's own semaphores, numbered as the machine numbers them. -/
abbrev osem : Fin 32 → SemLoc sig := fun j => .dma ⟨j.val + 2, by have := j.isLt; show _ < 34; omega⟩

theorem own_split {M : Type} [URA M] (Φ : Fin 32 → sProp M) :
    bigSep Finset.univ Φ = iprop((bigSep Finset.univ fun s : Fin 12 => Φ ⟨s.val, by omega⟩) ∗ (bigSep Finset.univ fun s : Fin 12 => Φ ⟨12 + s.val, by omega⟩)
      ∗ (bigSep Finset.univ fun s : Fin 4 => Φ ⟨24 + s.val, by omega⟩) ∗ bigSep Finset.univ fun s : Fin 4 => Φ ⟨28 + s.val, by omega⟩) := by
  have e : (Finset.univ : Finset (Fin 32)) = (Finset.univ : Finset (Fin 12)).map ⟨fun s : Fin 12 => (⟨s.val, by omega⟩ : Fin 32), by decide⟩
      ∪ ((Finset.univ : Finset (Fin 12)).map ⟨fun s : Fin 12 => (⟨12 + s.val, by omega⟩ : Fin 32), by decide⟩
      ∪ ((Finset.univ : Finset (Fin 4)).map ⟨fun s : Fin 4 => (⟨24 + s.val, by omega⟩ : Fin 32), by decide⟩ ∪ (Finset.univ : Finset (Fin 4)).map ⟨fun s : Fin 4 => (⟨28 + s.val, by omega⟩ : Fin 32), by decide⟩)) := by decide
  rw [e, bigSep_union (by decide), bigSep_union (by decide), bigSep_union (by decide), bigSep_map, bigSep_map, bigSep_map, bigSep_map]; rfl

theorem list12 {M : Type} [URA M] (Φ : Fin 12 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem list4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

theorem outReady_list (c : Dev nD) : (bigSep Finset.univ fun s : Fin 12 => sReady (F := F) c s : sProp 𝕄) = outReady c := list12 _
theorem inReady_list (c : Dev nD) : (bigSep Finset.univ fun s : Fin 12 => rReady (F := F) c s : sProp 𝕄) = inReady c := list12 _
theorem outDone_list (c : Dev nD) : (bigSep Finset.univ fun s : Fin 12 => sZ (F := F) c s : sProp 𝕄) = outDone c := list12 _
theorem inDone_list (c : Dev nD) : (bigSep Finset.univ fun s : Fin 12 => rZ (F := F) c s : sProp 𝕄) = inDone c := list12 _

theorem osem_send (s : Fin 12) : osem ⟨s.val, by omega⟩ = .dma (sendS s) := by revert s; decide
theorem osem_recv (s : Fin 12) : osem ⟨12 + s.val, by omega⟩ = .dma (recvS s) := by revert s; decide
theorem osem_load (s : Fin 4) : osem ⟨24 + s.val, by omega⟩ = .dma (loadS s) := by revert s; decide
theorem osem_out (s : Fin 4) : osem ⟨28 + s.val, by omega⟩ = .dma (outS s) := by revert s; decide

/-- The kernel's own semaphores are those of its transfers, sent and received, and of its local copies; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 12 => sZ (F := F) c s) ∗ (bigSep Finset.univ fun s : Fin 12 => rZ (F := F) c s)
      ∗ (bigSep Finset.univ fun s : Fin 4 => lZ (F := F) c s) ∗ bigSep Finset.univ fun s : Fin 4 => oZ (F := F) c s) := by
  unfold Pipeline.ownSems0
  rw [own_split]
  simp only [osem_send, osem_recv, osem_load, osem_out]
  rfl
/-- the barrier semaphore is the one it does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem locZ_eq (c : Dev nD) : (iprop((bigSep Finset.univ fun s : Fin 4 => lZ (F := F) c s) ∗ bigSep Finset.univ fun s : Fin 4 => oZ (F := F) c s) : sProp 𝕄) = locZ c := by
  rw [list4, list4]; rfl

theorem ownSemFacts : Pipeline.OwnSemFacts cfg0.spec osem := by decide

/-! ## The tokens as minted -/

/-- A device's own cells' duties: its barrier's two, its sends', its receives'. -/
def tokOf (cj : Dev nD × (Bool ⊕ (Fin 12 ⊕ Fin 12))) : GSem nD τ sig × ℕ × Bool := match cj.2 with
  | .inl b => (barCell cj.1, 0, b) | .inr (.inl s) => (sendCell cj.1 s, 0, false) | .inr (.inr s) => (recvCell cj.1 s, 0, false)

theorem sendS_inj : ∀ s s' : Fin 12, sendS s = sendS s' → s = s' := by decide
theorem recvS_inj : ∀ s s' : Fin 12, recvS s = recvS s' → s = s' := by decide
theorem send_ne_recv : ∀ s s' : Fin 12, sendS s ≠ recvS s' := by decide

theorem tokOf_injective : Function.Injective tokOf := by
  rintro ⟨c, j⟩ ⟨c', j'⟩ h
  have h1 : c = c' := by
    have := congrArg (fun x : GSem nD τ sig × ℕ × Bool => x.1.1.1) h
    rcases j with b | s | s <;> rcases j' with b' | s' | s' <;> exact this
  subst h1
  have h2 := congrArg (fun x : GSem nD τ sig × ℕ × Bool => x.1.2) h
  have h3 := congrArg (fun x : GSem nD τ sig × ℕ × Bool => x.2.2) h
  have hd : ∀ {a b : DmaSem sig}, (SemLoc.dma a : SemLoc sig) = .dma b → a = b := fun e => by injection e
  rcases j with b | s | s <;> rcases j' with b' | s' | s'
  · have h3 : b = b' := h3
    rw [h3]
  · cases h2
  · cases h2
  · cases h2
  · rw [sendS_inj s s' (hd h2)]
  · exact absurd (hd h2) (send_ne_recv s s')
  · cases h2
  · exact absurd (hd h2).symm (send_ne_recv s' s)
  · rw [recvS_inj s s' (hd h2)]
def kToks : Finset (GSem nD τ sig × ℕ × Bool) := Finset.univ.map ⟨tokOf, tokOf_injective⟩

/-- The launch's ghost element: the pipeline's, the exchange's, and nothing yet counted. -/
def u₀ : UU := (initOf (Pipeline.cells cfgs cellOf_inj) (Pipeline.launchToks cfgs cellOf_inj), (initOf kCells kToks, (1 : Counters)))

def toks (c : Dev nD) : sProp 𝕄 :=
  iprop((dutyTok EX (barCell c) 0 false ∗ dutyTok EX (barCell c) 0 true)
    ∗ (bigSep Finset.univ fun s : Fin 12 => dutyTok EX (sendCell c s) 0 false) ∗ bigSep Finset.univ fun s : Fin 12 => dutyTok EX (recvCell c s) 0 false)

/-- What the launch deals device `c`. -/
def G (c : Dev nD) : sProp 𝕄 :=
  iprop((bigSep Finset.univ fun k : Fin 25 => roundState EX (kRd m) (kcell (c, k)) 0)
    ∗ (bigSep Finset.univ fun k : Fin 25 => iprop(atPos EX (kcell (c, k)) 0 ∅ 0 ∗ reached EX (kcell (c, k)) 0)) ∗ toks c)

theorem fund : BI.own (EX (initOf kCells kToks)) ⊢ (|==> bigSep Finset.univ (G m) : sProp 𝕄) := by
  have hX (Φ : GSem nD τ sig → sProp 𝕄) : bigSep kCells Φ = bigSep Finset.univ fun c : Dev nD => bigSep Finset.univ fun k : Fin 25 => Φ (kcell (c, k)) := by
    unfold kCells; rw [bigSep_map, bigSep_univ_prod]; rfl
  have hT : bigSep kToks (fun x => (dutyTok EX x.1 x.2.1 x.2.2 : sProp 𝕄)) = bigSep Finset.univ fun c : Dev nD => toks c := by
    unfold kToks; rw [bigSep_map, bigSep_univ_prod]
    refine bigSep_congr fun c _ => ?_
    rw [bigSep_univ_sum, bigSep_univ_sum, bigSep_univ_eq_bigSepL [false, true] (by decide) (by decide)]; rfl
  iintro HX
  imod (Rounds.fund EX (kRd m) kCells kToks) $$ HX with ⟨Hst, Hr, Hat, Htok⟩
  imodintro
  ihave Hst' := (Entails.of_eq (hX fun g => roundState EX (kRd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (kRd m) κ (kcell (c, k))))
          ∗ (bigSep Finset.univ fun k => iprop(atPos EX (kcell (c, k)) 0 ∅ 0 ∗ reached EX (kcell (c, k)) 0)) ∗ toks c ∗ locZ c) := by
  have hv : iprop(semVal (barCell c) 0 ∗ (bigSep Finset.univ fun s : Fin 12 => sZ (F := F) c s) ∗ (bigSep Finset.univ fun s : Fin 12 => rZ (F := F) c s))
      ⊢ (bigSep Finset.univ fun k : Fin 25 => semVal (kcell (c, k)) 0 : sProp 𝕄) := by
    rw [cells_split]
    simp only [kcell_send, kcell_recv]
    exact BI.Entails.refl _
  unfold G
  rw [ownSems0_eq, unscopedSems0_eq]
  iintro ⟨⟨HS, HR, Hl, Ho⟩, HB, Hst, Hat, Htok⟩
  ihave Hv := hv $$ [HB HS HR]
  · iframe HB HS HR
  imod (show iprop((bigSep Finset.univ fun k : Fin 25 => semVal (kcell (c, k)) 0) ∗ bigSep Finset.univ fun k : Fin 25 => roundState EX (kRd m) (kcell (c, k)) 0)
      ⊢ (|={Set.univ}=> bigSep Finset.univ fun k => iprop(∃ κ : ℕ, cellInv EX (kRd m) κ (kcell (c, k))) : sProp 𝕄) from by
        rw [← bigSep_sep']
        exact (bigSep_mono fun k _ => (Rounds.body_intro EX (kRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iapply (Entails.of_eq (locZ_eq (F := F) c))
  isplitl [Hl] <;> iassumption

/-! ## The tokens where they are spent -/

/-- The duties device `c` pays: one of each neighbour's barrier, its transfers' here and where they land. -/
def payToks (c : Dev nD) : sProp 𝕄 :=
  iprop((dutyTok EX (barCell (nxt c)) 0 false ∗ dutyTok EX (barCell (prv c)) 0 true)
    ∗ (bigSep Finset.univ fun s : Fin 12 => dutyTok EX (sendCell c s) 0 false) ∗ bigSep Finset.univ fun s : Fin 12 => dutyTok EX (recvCell (tgt s c) s) 0 false)

def ring : Dev nD ≃ Dev nD := ⟨nxt, prv, prv_nxt, nxt_prv⟩
/-- Each transfer from its issuer to its receiver. -/
def lanes : Dev nD × Fin 12 ≃ Dev nD × Fin 12 :=
  ⟨fun x => (tgt x.2 x.1, x.2), fun x => (orig x.2 x.1, x.2), fun x => Prod.ext (orig_tgt x.2 x.1) rfl, fun x => Prod.ext (tgt_orig x.2 x.1) rfl⟩

theorem toks_around : (bigSep Finset.univ fun c : Dev nD => (toks c : sProp 𝕄)) ⊢ bigSep Finset.univ fun c : Dev nD => payToks c := by
  have hr : (bigSep Finset.univ fun c : Dev nD => bigSep Finset.univ fun s : Fin 12 => (dutyTok EX (recvCell c s) 0 false : sProp 𝕄))
      = bigSep Finset.univ fun c : Dev nD => bigSep Finset.univ fun s : Fin 12 => (dutyTok EX (recvCell (tgt s c) s) 0 false : sProp 𝕄) := by
    rw [← bigSep_univ_prod fun x : Dev nD × Fin 12 => (dutyTok EX (recvCell x.1 x.2) 0 false : sProp 𝕄), bigSep_univ_equiv lanes, bigSep_univ_prod]
    rfl
  unfold toks payToks
  simp only [bigSep_sep']
  rw [bigSep_univ_equiv ring (fun c : Dev nD => (dutyTok EX (barCell c) 0 false : sProp 𝕄)),
    bigSep_univ_equiv ring.symm (fun c : Dev nD => (dutyTok EX (barCell c) 0 true : sProp 𝕄)), hr]
  exact BI.Entails.refl _

/-- What every device may know of every cell. -/
def records (K : Dev nD × Fin 25 → ℕ) : sProp 𝕄 :=
  iprop((bigSep Finset.univ fun ck : Dev nD × Fin 25 => cellInv EX (kRd m) (K ck) (kcell ck))
    ∗ bigSep Finset.univ fun ck : Dev nD × Fin 25 => reached EX (kcell ck) 0)
instance records_persistent (K : Dev nD × Fin 25 → ℕ) : BI.Persistent (records m K) := by unfold records; infer_instance

/-- What is device `c`'s alone: its positions, the tokens it pays with, its local copies' semaphores. -/
def mine (c : Dev nD) : sProp 𝕄 :=
  iprop((bigSep Finset.univ fun k : Fin 25 => atPos EX (kcell (c, k)) 0 ∅ 0) ∗ payToks c ∗ locZ c)

/-- What the launch makes of it all, per device. -/
def G' (c : Dev nD) : sProp 𝕄 := iprop(∃ K, records m K ∗ mine c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (kRd m) κ (kcell (c, k))))
          ∗ (bigSep Finset.univ fun k => iprop(atPos EX (kcell (c, k)) 0 ∅ 0 ∗ reached EX (kcell (c, k)) 0)) ∗ toks c ∗ locZ c) : sProp 𝕄)
      ⊢ bigSep Finset.univ (G' m) := by
  rw [bigSep_sep', bigSep_sep', bigSep_sep', ← bigSep_univ_prod (fun ck : Dev nD × Fin 25 => iprop(∃ κ : ℕ, cellInv EX (kRd m) κ (kcell ck))),
    bigSep_congr (s := Finset.univ) (fun (c : Dev nD) _ => bigSep_sep' Finset.univ (fun k : Fin 25 => (atPos EX (kcell (c, k)) 0 ∅ 0 : sProp 𝕄)) (fun k => reached EX (kcell (c, k)) 0)),
    bigSep_sep', ← bigSep_univ_prod (fun ck : Dev nD × Fin 25 => (reached EX (kcell ck) 0 : sProp 𝕄))]
  iintro ⟨HI, ⟨Hat, #HR⟩, Htok, Hloc⟩
  ihave HK := (BI.bigSep_exists_pi Finset.univ (fun (ck : Dev nD × Fin 25) (κ : ℕ) => (cellInv EX (kRd m) κ (kcell ck) : sProp 𝕄))) $$ HI
  icases HK with ⟨%K, #HI⟩
  ihave Htk := (toks_around (F := F)) $$ Htok
  iapply (with_persistent (R := records m K) (Φ := mine) fun c _ => (by unfold G'; iintro H; iexists K; iexact H : iprop(records m K ∗ mine c) ⊢ G' m c))
  isplitr
  · unfold records; isplitl; · iexact HI
    iexact HR
  · unfold mine
    simp only [bigSep_sep']
    iframe Hat Htk Hloc

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem cell_dev {a b : Dev nD} {x y : SemLoc sig} (h : (((a : Thread nD τ), x) : GSem nD τ sig) = ((b : Thread nD τ), y)) : a = b ∧ x = y :=
  ⟨congrArg (fun g : GSem nD τ sig => g.1.1) h, congrArg Prod.snd h⟩

theorem owed_list (d c : Dev nD) (s : Fin 12) : ∀ l : List (Fin 12), l.Nodup →
    Ow d l (recvCell c s) () = if s ∈ l ∧ d = orig s c then NN s else 0
  | [], _ => by rw [if_neg (fun h => List.not_mem_nil h.1)]; rfl
  | s' :: l, hl => by
    obtain ⟨h1, h2⟩ := List.nodup_cons.mp hl
    unfold Ow
    rw [Pi.add_apply, Finsupp.add_apply, owed_list d c s l h2, tallyAt_apply]
    by_cases hs : s = s'
    · subst hs
      rw [if_neg (fun h => h1 h.1), Nat.zero_add]
      by_cases hd : d = orig s c
      · rw [if_pos ⟨by rw [hd, tgt_orig], rfl⟩, if_pos ⟨List.mem_cons_self, hd⟩]
      · rw [if_neg (fun h => hd (by rw [(cell_dev h.1).1, orig_tgt])), if_neg (fun h => hd h.2)]
    · rw [if_neg (fun h : recvCell c s = recvCell (tgt s' d) s' ∧ () = () => hs (recvS_inj s s' (by have := (cell_dev h.1).2; injection this))), Nat.add_zero]
      have hm : s ∈ s' :: l ↔ s ∈ l := by rw [List.mem_cons]; exact ⟨fun h => h.resolve_left hs, Or.inr⟩
      simp only [hm]

theorem owed_recv (d c : Dev nD) (s : Fin 12) : O₀ d (recvCell c s) () = if d = orig s c then NN s else 0 := by
  have hb : ∀ e : Dev nD, ¬ (recvCell c s = barCell e ∧ () = ()) := fun e h => by have := (cell_dev h.1).2; cases this
  have hs : ∀ s : Fin 12, s ∈ order := by decide
  unfold O₀ O₁
  rw [Pi.add_apply, Finsupp.add_apply, Pi.add_apply, Finsupp.add_apply, tallyAt_apply, tallyAt_apply, if_neg (hb _), if_neg (hb _)]
  simp only [Nat.add_zero]
  rw [owed_list d c s order (by decide)]
  simp only [hs s, true_and]

theorem owed_bar (d c : Dev nD) : O₀ d (barCell c) () = (if d = prv c then 1 else 0) + (if d = nxt c then 1 else 0) := by
  have h0 : Ow d order (barCell c) () = 0 := by
    by_contra h
    obtain ⟨s, _, hs⟩ := Ow_pos (Nat.pos_of_ne_zero h)
    have := (cell_dev hs).2; cases this
  unfold O₀ O₁
  rw [Pi.add_apply, Finsupp.add_apply, Pi.add_apply, Finsupp.add_apply, tallyAt_apply, tallyAt_apply, h0, Nat.zero_add]
  congr 1
  · by_cases h : d = prv c
    · rw [if_pos ⟨by rw [h, nxt_prv], rfl⟩, if_pos h]
    · rw [if_neg (fun h' => h (by rw [(cell_dev h'.1).1, prv_nxt])), if_neg h]
  · by_cases h : d = nxt c
    · rw [if_pos ⟨by rw [h, prv_nxt], rfl⟩, if_pos h]
    · rw [if_neg (fun h' => h (by rw [(cell_dev h'.1).1, nxt_prv])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (s : Fin 12) :
    tallyOn (recvCell c s) (launchCredit (Pipeline.owing O₀) 0 (recvCell c s)) = (tallyAt (recvCell c s) () (NN s) : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (orig s c) fun _ => NN s,
    if_pos (Finset.mem_univ _)]

theorem creds (c : Dev nD) :
    (Pipeline.launchCred O₀ c : sProp 𝕄) ⊢ iprop(cred (tallyAt (barCell c) () 2) ∗ bigSep Finset.univ fun s : Fin 12 => cred (tallyAt (recvCell c s) () (NN s))) := by
  have hi : Function.Injective fun s : Fin 12 => (SemLoc.dma (recvS s) : SemLoc sig) := fun s s' h => recvS_inj s s' (by injection h)
  have hsub : (Finset.univ : Finset (Fin 12)).map ⟨_, hi⟩ ⊆ (Finset.univ : Finset (SemLoc sig)).erase (.reg barS) := fun x hx => by
    obtain ⟨s, _, rfl⟩ := Finset.mem_map.mp hx
    exact Finset.mem_erase.mpr ⟨(fun h => by cases h), Finset.mem_univ _⟩
  unfold Pipeline.launchCred
  rw [bigSep_univ_at _ (SemLoc.reg barS), launch_bar]
  refine sep_mono_right ?_
  refine (bigSep_subset hsub).trans ?_
  rw [bigSep_map]
  exact Entails.of_eq (bigSep_congr fun s _ => congrArg cred (launch_recv c s))

/-! ## What each device's run starts from -/

/-- The barrier's part, but for the owed credits. -/
def barReady (c : Dev nD) : sProp 𝕄 :=
  iprop(dutyTok EX (barCell (prv c)) 0 true ∗ dutyTok EX (barCell (nxt c)) 0 false ∗ cred (tallyAt (barCell c) () 2) ∗ atPos EX (barCell c) 0 ∅ 0)

theorem ready (c : Dev nD) : iprop(mine c ∗ Pipeline.launchCred O₀ c) ⊢ (iprop(barReady c ∗ locZ c ∗ outReady c ∗ inReady c) : sProp 𝕄) := by
  unfold mine payToks barReady
  rw [cells_split, ← outReady_list, ← inReady_list]
  simp only [kcell_send, kcell_recv, kcell_bar]
  iintro ⟨⟨⟨AB, AS, AR⟩, ⟨⟨TN, TP⟩, TS, TR⟩, HL⟩, HC⟩
  ihave HC := (creds (F := F) c) $$ HC
  icases HC with ⟨CB, CR⟩
  isplitl [TP TN CB AB]; · iframe TP TN CB AB
  isplitl [HL]; · iexact HL
  unfold sReady rReady
  simp only [bigSep_sep']
  isplitl [TS TR AS]; · iframe TS TR AS
  iframe CR AR

end Cert.KProof

end
-- ==== Proof.Run.lean ====
/-
The launch: the run of the whole program from any memory, its result and its arguments at the end.
-/
module

public import proofs.«01_k».proof.Proof.Ghost
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The invariant at the run's two ends -/

/-- The arguments and the result in device `c`'s main memory, the result at `f`. -/
def inMem (c : Dev nD) (f : Buf (Elt F) (oL c)) : sProp 𝕄 :=
  iprop((((c : Thread nD τ).loc main_arg0) ↦{fullShare} xA m c) ∗ (((c : Thread nD τ).loc main_arg1) ↦{fullShare} wA m c) ∗ (((c : Thread nD τ).loc main_v1) ↦{fullShare} f))

/-- What device `c`'s run starts from, but for its scratch. -/
def start (c : Dev nD) : sProp 𝕄 :=
  iprop((∃ K, ctx m K) ∗ inMem m c (m _) ∗ barReady c ∗ locZ c ∗ outReady c ∗ inReady c)

def Φ₀ (c : Dev nD) : sProp 𝕄 :=
  iprop((∃ K, ctx m K) ∗ (argP m c ∗ resE c) ∗ (barReady c ∗ locZ c ∗ outReady c ∗ inReady c) ∗ toPrv c ∗ toNxt c ∗ ownE c)
def Φ₁ (c : Dev nD) : sProp 𝕄 :=
  iprop(semVal (barCell c) 0 ∗ (argP m c ∗ resP m c) ∗ wgBack m c ∗ ownP m c ∗ locZ c ∗ outDone c ∗ inDone c)

/-- The scales as staged. -/
def stg0 (c : Dev nD) : (cc0_stg0_0 : Ref sig .tc).ty.Contents (Elt F) := (win0_0.blk (0 : Fin 1)).view.read (Elt F) (m ((c : Thread nD τ).loc main_arg2))
def stg1 (c : Dev nD) : (cc0_stg1_0 : Ref sig .tc).ty.Contents (Elt F) := (win0_1.blk (0 : Fin 1)).view.read (Elt F) (m ((c : Thread nD τ).loc main_arg3))

theorem S1_one (i j : S1.Idx) : i = j := funext fun a => Fin.ext (by
  have h : ∀ k : S1.Idx, (k a).val = 0 := fun k => by
    have := (k a).isLt
    have e : ∀ a : Fin 1, S1.size a = 1 := by decide
    have e := e a
    omega
  rw [h i, h j])
theorem stg0_eq (c : Dev nD) : stg0 m c = sxA m c := funext fun i => congrArg (m ((c : Thread nD τ).loc main_arg2)) (S1_one _ _)
theorem stg1_eq (c : Dev nD) : stg1 m c = swA m c := funext fun i => congrArg (m ((c : Thread nD τ).loc main_arg3)) (S1_one _ _)

def dats (_ : Fin 1) (c : Dev nD) : Pipeline.Dat τ (Elt F) Unit ℕ UU ℕ cfg0 c where
  A w := m ((cfg0.win w).arr.view.loc (c : Thread nD τ))
  after w _ := match w with
    | ⟨0, _⟩ => stg0 m c
    | ⟨1, _⟩ => stg1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The one grid point -/

abbrev t₀ : Fin cfg0.N := t0_0

theorem fetch_0 : (cfg0.win (0 : Fin 2)).fetch t₀ = true := rfl
theorem fetch_1 : (cfg0.win (1 : Fin 2)).fetch t₀ = true := rfl

theorem bigSep_W (Φ : Fin cfg0.W → sProp 𝕄) : bigSep Finset.univ Φ = iprop(Φ (0 : Fin 2) ∗ Φ (1 : Fin 2)) := bigSep_W0 Φ

/-- A staging buffer held whole, at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pointPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
def pointPost (c : Dev nD) : sProp 𝕄 :=
  iprop(Φ₁ m c ∗ (dats m 0 c).owesAt () t₀.succ ∗ stg c cc0_stg0_0 (stg0 m c) ∗ stg c cc0_stg1_0 (stg1 m c))

theorem point (c : Dev nD) : pointPre m c ⊢ wpc c (at' cc0_body) (fun _ => pointPost m c) := by
  unfold pointPre Φ₀
  iintro ⟨⟨⟨%K, #HK⟩, ⟨HA, HR⟩, ⟨HB, HL, HO, HI⟩, HP, HN, HE⟩, Ho, ⟨%d0, %g0, %e0, H0⟩, ⟨%d1, %g1, %e1, H1⟩⟩
  have x0 : g0 = sxA m c := by rw [e0]; unfold Pipeline.Dat.before; rw [if_pos fetch_0]; exact stg0_eq m c
  have x1 : g1 = swA m c := by rw [e1]; unfold Pipeline.Dat.before; rw [if_pos fetch_1]; exact stg1_eq m c
  subst x0; subst x1
  unfold Pipeline.Dat.owesAt Pipeline.owesWithin
  icases Ho with ⟨%W, %hW, HW⟩
  iapply (body m K c (Q := fun _ => pointPost m c)) $$ [HA HR HB HL HO HI HP HN HE HW H0 H1]
  · isplitr; · iexact HK
    unfold bodyIn bReady barReady sclP
    icases HB with ⟨B1, B2, B3, B4⟩
    isplitl [B1 B2 B3 B4 HW]
    · isplitl [B1]; · iexact B1
      isplitl [B2]; · iexact B2
      isplitl [B3]; · iexact B3
      isplitl [B4]; · iexact B4
      iexists W; iexact HW
    isplitl [HP HN]; · iframe HP HN
    isplitl [HA]; · iexact HA
    isplitl [H0 H1]; · iframe H0 H1
    iframe HE HR HL HO HI
  · unfold bodyOut pointPost Φ₁ sclP Pipeline.Dat.owesAt Pipeline.owesWithin OW
    iintro ⟨HB, HA, ⟨H0, H1⟩, HG, HP, HR, HL, HO, HI, ⟨%W', HW⟩⟩
    isplitl [HB HA HG HP HR HL HO HI]
    · isplitl [HB]; · iexact HB
      isplitl [HA HR]; · iframe HA HR
      iframe HG HP HL HO HI
    isplitl [HW]
    · iexists W'
      isplitr; · (ipureintro; exact fun _ _ => Or.inl trivial)
      iexact HW
    isplitl [H0]
    · iexists _
      isplitr
      rotate_left
      · iexact H0
      · ipureintro; exact (stg0_eq m c).symm
    · iexists _
      isplitr
      rotate_left
      · iexact H1
      · ipureintro; exact (stg1_eq m c).symm

set_option maxRecDepth 8000 in
theorem body_obligation (c : Dev nD) : Pipeline.BodyObligation (dats (F := F) m 0 c) (defs₀ (F := F)) 𝒱₀ () Set.univ := fun t => by
  rw [fin_N0 t, bigSep_W, bigSep_W]
  simp only [owns_stg]
  exact point m c

/-! ## The launch's side conditions -/

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
      = iprop((((c : Thread nD τ).loc main_arg0) ↦{fullShare} m ((c : Thread nD τ).loc main_arg0)) ∗ (((c : Thread nD τ).loc main_arg1) ↦{fullShare} m ((c : Thread nD τ).loc main_arg1))
        ∗ (((c : Thread nD τ).loc main_v1) ↦{fullShare} m ((c : Thread nD τ).loc main_v1)))
      from (Pipeline.unscopedRestP_none cfg0.spec c _).trans (unscopedRest0_eq c _)]
  unfold G' start inMem
  iintro ⟨HM, #HL, HC, -, ⟨%K, #HR, HG⟩⟩
  ihave H := (ready (F := F) c) $$ [HG HC]
  · isplitl [HG] <;> iassumption
  imodintro
  isplitl
  · isplitr
    · iexists K
      unfold ctx records
      icases HR with ⟨#H1, #H2⟩
      isplitr; · iexact H1
      isplitr; · iexact H2
      iexact HL
    isplitl [HM]; · iexact HM
    iexact H
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start inMem
  iintro ⟨⟨HK, ⟨M0, M1, M2⟩, HB⟩, -, HS⟩
  ihave HS := (scratch_in (F := F) c) $$ HS
  ihave HM := (args_in m c) $$ [M0 M1 M2]
  · isplitl [M0]; · iexact M0
    isplitl [M1]; · iexact M1
    iexists _; iexact M2
  isplitl [HK]; · iexact HK
  isplitl [HM]; · iexact HM
  isplitl [HB]; · iexact HB
  iexact HS

theorem phi1_exit (c : Dev nD) :
    (dats m 0 c).Φ (Fin.last cfg0.N) ⊢ iprop((unscopedSems0 c ∗ inMem m c (outF m c)) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ inMem
  rw [← locZ_eq, ← outDone_list, ← inDone_list]
  iintro ⟨HB, HM, HG, HP, ⟨HL, HO⟩, HS, HR⟩
  ihave HM := (args_out m c) $$ HM
  ihave HG := (wg_out m c) $$ HG
  ihave HP := (own_out m c) $$ HP
  isplitl [HB HM]
  · isplitl [HB]; · iexact HB
    iexact HM
  isplitl [HS HR HL HO]; · iframe HS HR HL HO
  isplitl [HG]; · iexact HG
  iexact HP

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the final memory's buffers hold is what is held of them. -/
theorem mem_read (c : Dev nD) (f : Buf (Elt F) (oL c)) (s' : Phys nD τ sig (Elt F)) :
    iprop(inMem m c f ∗ SI s') ⊢ iprop(⌜s'.mem.mem ((c : Thread nD τ).loc main_arg0) = xA m c ∧ s'.mem.mem ((c : Thread nD τ).loc main_arg1) = wA m c
      ∧ s'.mem.mem ((c : Thread nD τ).loc main_v1) = f⌝ ∗ (SI s' : sProp 𝕄)) := by
  unfold inMem
  iintro ⟨⟨H0, H1, H2⟩, HSI⟩
  icombine HSI H0 gives %h0
  icombine HSI H1 gives %h1
  icombine HSI H2 gives %h2
  isplitr
  · ipureintro; exact ⟨Buf.eq_of_forall_mem_univ h0, Buf.eq_of_forall_mem_univ h1, Buf.eq_of_forall_mem_univ h2⟩
  · iexact HSI

/-! ## The run -/

/-- What a final memory holds on device `c`: the arguments as they were and the result. -/
def AtEnd (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v1) = outF m c

set_option maxRecDepth 8000 in
/-- On the four devices, for any float values, from any memory with zero counters, every weakly fair execution ends, each
    device's result array at `outF`, its arguments as they were and every semaphore counter at zero. -/
theorem run_main : θ_run defs (onTc (τ := τ) (main (F := F))) ⟨m, fun _ => 0, ρ⟩ (fun r => (∀ c, AtEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (show BI.own (embR ((initOf kCells kToks, (1 : Counters)) : UX × Counters)) ⊢ (|==> bigSep Finset.univ (G m) : sProp 𝕄) from fund m) $$ HX with HG
      imodintro
      isplitl [HP] <;> iassumption)
    (hglob := glob m)
    (hA := fun _ _ => rfl) (hpf := fun _ k => k.elim0)
    (X := start m) (Y := fun c => iprop(unscopedSems0 c ∗ inMem m c (outF m c))) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = xA m c ∧ s.mem ((c : Thread nD τ).loc main_arg1) = wA m c ∧ s.mem ((c : Thread nD τ).loc main_v1) = outF m c)
    (hY := fun c s' => by
      iintro ⟨⟨Hu, HM⟩, -, HSI⟩
      ihave H := (mem_read m c (outF m c) s') $$ [HM HSI]
      · isplitl [HM] <;> iassumption
      icases H with ⟨%hm, HSI⟩
      imod (Pipeline.unscopedSems0_read (X := unscopedSems0 c) (c := c) fupd_intro s') $$ [Hu HSI] with ⟨%hu, HSI⟩
      · isplitl [Hu] <;> iassumption
      imodintro
      isplitr
      · ipureintro; exact ⟨hu, hm⟩
      · iexact HSI)
    (hQ := fun s h hs => ⟨fun c => ⟨(h c).2.2.2.1, (h c).2.2.2.2.1, ((h c).1 (0 : Fin 2)).trans ((dats (F := F) m 0 c).arrAt_in (0 : Fin 2) rfl _),
      ((h c).1 (1 : Fin 2)).trans ((dats (F := F) m 0 c).arrAt_in (1 : Fin 2) rfl _), (h c).2.2.2.2.2⟩, sem_eq_zero hs fun c => (h c).2.2.1⟩)

end Cert.KProof

end
-- ==== Proof.Value.lean ====
/-
  What the kernel computes over the extended reals.

  A block of the result is `y * logistic y` of the scaled product `y` of its rows and columns (`blk_apply`). Casts
  are the identity there, so narrowing the operands to fp8 and the travelling results to bf16 changes nothing, and a
  device's result, read at row `r` and local column `l`, is that function of row `r` of the whole `x` and of the
  device's own column `l` of the whole weights, whichever device computed it (`out_apply`). `silu_quot` is the one
  identity of functions: `y * (1 / (1 + e^(-y)))` is `y / (1 + e^(-y))` at every extended real.
-/
module

public import proofs.«01_k».proof.Proof.Protocol
public import Idealize.ShloMosaic.Lib.MatmulPlain
public import Idealize.ShloMosaic.Lib.Layout
public import Idealize.ShloMosaic.Lib.IdealHost
public import Idealize.ShloMosaic.Lib.Pointwise

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The exponential is nowhere negative. -/
theorem exp_nonneg (x : EReal) : 0 ≤ Ideal.exp x := by
  induction x with
  | bot => exact le_refl _
  | top => exact le_top
  | coe r => exact EReal.coe_nonneg.2 (Real.exp_pos r).le

/-- So one more than it is not zero. -/
theorem one_add_exp_ne (x : EReal) : 1 + Ideal.exp x ≠ 0 :=
  (lt_of_lt_of_le zero_lt_one (le_add_of_nonneg_right (exp_nonneg x))).ne'

/-- The product with the logistic is the quotient by one plus the exponential of the negative. -/
theorem silu_quot (y : EReal) : y * Ideal.logistic y = Ideal.div y (1 + Ideal.exp (-y)) := by
  rw [Ideal.logistic, Ideal.div, Ideal.div, if_neg (one_add_exp_ne _), if_neg (one_add_exp_ne _), one_mul]

/-- The function applied to each scaled product. -/
def silu (y : EReal) : EReal := Ideal.div y (1 + Ideal.exp (-y))

/-- Row `r` of the whole `x` times column `l` of the whole weights, scaled by the product of the scales. -/
def scaled (x : (⟨2, ![4096, 4096]⟩ : Shape).Idx → EReal) (w : (⟨2, ![4096, 2048]⟩ : Shape).Idx → EReal)
    (sx sw : (⟨1, ![1]⟩ : Shape).Idx → EReal) (r : Fin 4096) (l : Fin 2048) : EReal :=
  (∑ k : Fin 4096, x (ix2 r k) * w (ix2 k l)) * (sx ix1 * sw ix1)

/-- The pair of two coordinates, under its two names. -/
theorem i2_eq {a b : ℕ} (r : Fin a) (k : Fin b) : i2 (d := ![a, b]) r k = ix2 r k := by
  funext q
  match q with
  | ⟨0, _⟩ => rfl
  | ⟨1, _⟩ => rfl

/-- A result block at row `r`, column `l`. -/
theorem blk_apply (s : Ideal .f32) (x : FVec Ideal S512x4096 .fp8e4m3) (w : FVec Ideal S4096x512 .fp8e4m3) (r l : Fin 512) :
    blk (F := Ideal) s x w (ix2 r l) = silu ((∑ k : Fin 4096, (x (ix2 r k) : EReal) * w (ix2 k l)) * s) := by
  have e : matmul (F := Ideal) dot_S512x4096_S4096x512_S512x512_1_0_0_1_n_n none x w (constant S512x512 .f32 0x00000000#32) (ix2 r l)
      = ∑ k : Fin 4096, (x (ix2 r k) : EReal) * w (ix2 k l) := by
    refine (Ideal.matmul_plain_apply (M := 512) (K := 4096) (N := 512) none x w _ r l).trans ?_
    refine (congrArg (· + _) (?_ : constant (F := Ideal) S512x512 .f32 0x00000000#32 (ix2 r l) = (0 : EReal))).trans (zero_add _)
    exact Ideal.ofBits_zero_f32
  refine Eq.trans ?_ (silu_quot _)
  show ((matmul (F := Ideal) dot_S512x4096_S4096x512_S512x512_1_0_0_1_n_n none x w (constant S512x512 .f32 0x00000000#32) (ix2 r l) : EReal) * s)
      * Ideal.logistic ((matmul (F := Ideal) dot_S512x4096_S4096x512_S512x512_1_0_0_1_n_n none x w (constant S512x512 .f32 0x00000000#32) (ix2 r l) : EReal) * s) = _
  rw [e]

variable (m : (ℓ : Loc nD τ sig) → Buf (Elt Ideal) ℓ)
variable (x : (⟨2, ![4096, 4096]⟩ : Shape).Idx → EReal) (w : (⟨2, ![4096, 2048]⟩ : Shape).Idx → EReal)
variable (sx sw : (⟨1, ![1]⟩ : Shape).Idx → EReal)

/-- The devices hold their blocks of the whole arrays, and the scales. -/
structure Holds : Prop where
  rows : ∀ c, xA m c = Layout.block ⟨2, ![1024, 4096]⟩ ⟨2, ![4096, 4096]⟩ 0 4 c x
  cols : ∀ c, wA m c = Layout.block ⟨2, ![4096, 512]⟩ ⟨2, ![4096, 2048]⟩ 1 4 c w
  scaleX : ∀ c, sxA m c = sx
  scaleW : ∀ c, swA m c = sw

variable {m x w sx sw}

/-- A block of half `h` of device `c`'s rows against device `d`'s columns, in terms of the whole arrays. -/
theorem yB_apply (H : Holds m x w sx sw) (c d : Dev nD) (h : Fin 2) (r l : Fin 512) (R : Fin 4096) (L : Fin 2048)
    (hR : R.val = 1024 * c.val + 512 * h.val + r.val) (hL : L.val = 512 * d.val + l.val) :
    yB (F := Ideal) m c d h (ix2 r l) = silu (scaled x w sx sw R L) := by
  refine (blk_apply _ _ _ r l).trans (congrArg silu ?_)
  have es : (scl (F := Ideal) m c : EReal) = sx ix1 * sw ix1 := by
    show (sxA m c ix1 : EReal) * swA m c ix1 = _
    rw [H.scaleX, H.scaleW]
  rw [es]
  refine congrArg (· * _) (Finset.sum_congr rfl fun k _ => ?_)
  have ex : (xH (F := Ideal) m c h (ix2 r k) : EReal) = x (ix2 R k) := by
    show (xA m c _ : EReal) = _
    rw [H.rows, Layout.block_apply]
    refine congrArg x ?_
    funext a; apply Fin.ext
    match a with
    | ⟨0, _⟩ => exact (show c.val * 1024 + (512 * h.val + r.val) = R.val by omega)
    | ⟨1, _⟩ => rfl
  have ew : (w8 (F := Ideal) m d (ix2 k l) : EReal) = w (ix2 k L) := by
    show (wA m d _ : EReal) = _
    rw [H.cols, Layout.block_apply]
    refine congrArg w ?_
    funext a; apply Fin.ext
    match a with
    | ⟨0, _⟩ => rfl
    | ⟨1, _⟩ => exact (show d.val * 512 + l.val = L.val by omega)
  rw [ex, ew]

/-- THE KERNEL'S VALUE: on device `c`, row `i 0`, local column `i 1`. -/
theorem out_apply (H : Holds m x w sx sw) (c : Dev nD) (i : S4096x512.Idx) (L : Fin 2048) (hL : L.val = 512 * c.val + (i 1).val) :
    outF (F := Ideal) m c i = silu (scaled x w sx sw (i 0) L) := by
  have h0 : (i 0).val < 4096 := (i 0).isLt
  have key := yB_apply H ⟨(i 0).val / 1024, by show _ < 4; omega⟩ c ⟨(i 0).val % 1024 / 512, by omega⟩
    ⟨(i 0).val % 512, Nat.mod_lt _ (by decide)⟩ (i 1) (i 0) L (by show (i 0).val = _; dsimp only; omega) hL
  replace key := (congrArg (yB (F := Ideal) m _ c _) (i2_eq _ _)).trans key
  unfold outF
  dsimp only
  split
  · next e => rw [e] at key; exact key
  · exact key

end Cert.KProof

end
-- ==== Proof.RefValue.lean ====
/-
  What the two references compute over the extended reals, element by element.

  `Reference` is the problem's own text, with the argument of the exponential clipped to [-60, 60]; `Unclipped` is the
  same without the clip. Each is a host program, and its run gives one term of whole arrays. At row `r` and column `l`
  the scaled product is `KProof.scaled` (`product_apply`, stated for any record of the contraction that is the plain
  one, so that it serves both programs and the mask), the unclipped result is `KProof.silu` of it
  (`UnclippedIdeal.result_apply`), and so is the clipped one wherever the mask is set (`ReferenceIdeal.result_apply`),
  the mask being set exactly where the clip changes nothing.
-/
module

public import proofs.«01_k».proof.Proof.Value
public import proofs.«01_k».proof.Proof.Gen.ReferenceIdeal.Run
public import proofs.«01_k».proof.Proof.Gen.UnclippedIdeal.Run
public import proofs.«01_k».proof.Proof.Gen.On_clip_idle
public import Idealize.ShloMosaic.Lib.Pipeline.Value

@[expose] public section

noncomputable section

open Idealize.ShloMosaic

namespace Cert.KProof

abbrev TX : Shape := ⟨2, ![4096, 4096]⟩
abbrev TW : Shape := ⟨2, ![4096, 2048]⟩
abbrev T11 : Shape := ⟨2, ![1, 1]⟩
abbrev T1 : Shape := ⟨1, ![1]⟩
abbrev T0 : Shape := ⟨0, ![]⟩

/-- The scaled product as the host writes it: the product, times the product of the scales broadcast. -/
def product (d : DotDims TX TW TW) (h₁ : T1.BroadcastsInDim T11 (![1] : Fin 1 → Fin 2)) (h₂ : T11.BroadcastsInDim TW (![0, 1] : Fin 2 → Fin 2))
    (x : FVec Ideal TX .f32) (w : FVec Ideal TW .f32) (sx sw : FVec Ideal T1 .f32) : FVec Ideal TW .f32 :=
  mulf (Host.dotGeneral d none x w) (broadcastInDim TW ![0, 1] h₂ (broadcastInDim T11 ![1] h₁ (mulf sx sw)))

/-- It is the scaled product of a row and a column. -/
theorem product_apply (d : DotDims TX TW TW) (hd : d = DotDims.plain 4096 4096 2048)
    (h₁ : T1.BroadcastsInDim T11 (![1] : Fin 1 → Fin 2)) (h₂ : T11.BroadcastsInDim TW (![0, 1] : Fin 2 → Fin 2))
    (x : FVec Ideal TX .f32) (w : FVec Ideal TW .f32) (sx sw : FVec Ideal T1 .f32) (r : Fin 4096) (l : Fin 2048) :
    product d h₁ h₂ x w sx sw (ix2 r l) = scaled x w sx sw r l := by
  subst hd
  have e₁ : Host.dotGeneral (DotDims.plain 4096 4096 2048) none x w (ix2 r l) = ∑ k : Fin 4096, (x (ix2 r k) : EReal) * w (ix2 k l) := by
    refine (Ideal.matmul_plain_apply (M := 4096) (K := 4096) (N := 2048) none x w (fun _ => (0 : EReal)) r l).trans ?_
    exact zero_add _
  have e₂ : broadcastInDim TW ![0, 1] h₂ (broadcastInDim T11 ![1] h₁ (mulf sx sw)) (ix2 r l) = (sx ix1 : EReal) * sw ix1 := by
    refine (broadcastInDim_apply ![0, 1] h₂ _ (ix2 r l) (ix2 ⟨0, Nat.one_pos⟩ ⟨0, Nat.one_pos⟩) fun a => ?_).trans ?_
    · fin_cases a <;> rfl
    refine (broadcastInDim_apply ![1] h₁ _ _ ix1 fun a => ?_).trans rfl
    fin_cases a; rfl
  show (Host.dotGeneral (DotDims.plain 4096 4096 2048) none x w (ix2 r l) : EReal) * _ = _
  rw [e₁, e₂]
  rfl

/-- A constant broadcast to the result's shape is that constant at every index. -/
theorem constant_apply (h : T0.BroadcastsInDim TW (![] : Fin 0 → Fin 2)) (b : BitVec 32) (i : TW.Idx) :
    broadcastInDim TW ![] h (constant (F := Ideal) T0 .f32 b) i = Ideal.ofBits .f32 b := rfl

/-- Clipping leaves what lies between the bounds. -/
theorem clip_idle {lo hi y : EReal} (h₁ : lo ≤ y) (h₂ : y ≤ hi) : min hi (max lo y) = y := by
  rw [max_eq_right h₁, min_eq_right h₂]

/-- A conjunction of two decided orders is one exactly where both hold. -/
theorem both_iff (lo hi y : EReal) :
    (Ideal.cmp .oge y lo &&& Ideal.cmp .ole y hi = 1#1) ↔ lo ≤ y ∧ y ≤ hi := by
  unfold Ideal.cmp
  by_cases h₁ : lo ≤ y <;> by_cases h₂ : y ≤ hi <;> simp [h₁, h₂]

end Cert.KProof

namespace Cert.UnclippedIdeal

open Cert.KProof Cert.UnclippedIdeal.Gen

/-- The unclipped reference's result, as an array. -/
def result (x : FVec Ideal TX .f32) (w : FVec Ideal TW .f32) (sx sw : FVec Ideal T1 .f32) : FVec Ideal TW .f32 :=
  let y := product dot_S4096x4096_S4096x2048_S4096x2048_1_0_0_1_n_n bcast_S1_S1x1_1 bcast_S1x1_S4096x2048_0_1 x w sx sw
  Host.divf y (addf (broadcastInDim TW ![] bcast_S_S4096x2048 (constant T0 .f32 0x3F800000#32)) (Host.exp (Host.negf y)))

/-- Read at an index. -/
theorem result_apply (x : FVec Ideal TX .f32) (w : FVec Ideal TW .f32) (sx sw : FVec Ideal T1 .f32) (r : Fin 4096) (l : Fin 2048) :
    result x w sx sw (ix2 r l) = silu (scaled x w sx sw r l) := by
  have e := product_apply dot_S4096x4096_S4096x2048_S4096x2048_1_0_0_1_n_n rfl bcast_S1_S1x1_1 bcast_S1x1_S4096x2048_0_1 x w sx sw r l
  show Ideal.div (product _ _ _ x w sx sw (ix2 r l)) (Ideal.ofBits .f32 0x3F800000#32 + Ideal.exp (-(product _ _ _ x w sx sw (ix2 r l) : EReal))) = _
  rw [e, Ideal.ofBits_one_f32]
  rfl

end Cert.UnclippedIdeal

namespace Cert.ReferenceIdeal

open Cert.KProof Cert.ReferenceIdeal.Gen

/-- The reference's result, as an array. -/
def result (x : FVec Ideal TX .f32) (w : FVec Ideal TW .f32) (sx sw : FVec Ideal T1 .f32) : FVec Ideal TW .f32 :=
  let y := product dot_S4096x4096_S4096x2048_S4096x2048_1_0_0_1_n_n bcast_S1_S1x1_1 bcast_S1x1_S4096x2048_0_1 x w sx sw
  Host.divf y (addf (broadcastInDim TW ![] bcast_S_S4096x2048 (constant T0 .f32 0x3F800000#32))
    (Host.exp (Host.negf (minimumf (broadcastInDim TW ![] bcast_S_S4096x2048 (id (constant T0 .f32 0x42700000#32)))
      (maximumf (broadcastInDim TW ![] bcast_S_S4096x2048 (id (constant T0 .f32 0xC2700000#32))) y)))))

/-- Read at an index where the scaled product is within the clip's bounds. -/
theorem result_apply (x : FVec Ideal TX .f32) (w : FVec Ideal TW .f32) (sx sw : FVec Ideal T1 .f32) (r : Fin 4096) (l : Fin 2048)
    (h₁ : Ideal.ofBits .f32 0xC2700000#32 ≤ scaled x w sx sw r l) (h₂ : scaled x w sx sw r l ≤ Ideal.ofBits .f32 0x42700000#32) :
    result x w sx sw (ix2 r l) = silu (scaled x w sx sw r l) := by
  have e := product_apply dot_S4096x4096_S4096x2048_S4096x2048_1_0_0_1_n_n rfl bcast_S1_S1x1_1 bcast_S1x1_S4096x2048_0_1 x w sx sw r l
  show Ideal.div (product _ _ _ x w sx sw (ix2 r l)) (Ideal.ofBits .f32 0x3F800000#32 + Ideal.exp (-(min (Ideal.ofBits .f32 0x42700000#32)
    (max (Ideal.ofBits .f32 0xC2700000#32) (product _ _ _ x w sx sw (ix2 r l))) : EReal))) = _
  rw [e, Ideal.ofBits_one_f32, Cert.KProof.clip_idle h₁ h₂]
  rfl

end Cert.ReferenceIdeal

namespace Cert.On_clip_idle

open Cert.KProof Cert.On_clip_idle.Gen

/-- The mask is set exactly where the scaled product is within the clip's bounds. -/
theorem fn_iff (x : FVec Ideal TX .f32) (w : FVec Ideal TW .f32) (sx sw : FVec Ideal T1 .f32) (r : Fin 4096) (l : Fin 2048) :
    fn (F := Ideal) x w sx sw (ix2 r l) = 1#1 ↔
      Ideal.ofBits .f32 0xC2700000#32 ≤ scaled x w sx sw r l ∧ scaled x w sx sw r l ≤ Ideal.ofBits .f32 0x42700000#32 := by
  have e := product_apply dot_S4096x4096_S4096x2048_S4096x2048_1_0_0_1_n_n rfl Facts.bcast_S1_S1x1_1 Facts.bcast_S1x1_S4096x2048_0_1 x w sx sw r l
  rw [← e]
  exact both_iff _ _ _

end Cert.On_clip_idle

end
-- ==== Proof.lean ====
/-
  The proof of `Cert.Claim`: an all-gather of weight blocks on a ring of four devices, fused with the scaled fp8 product of
  each device's rows, the function y / (1 + e^(-y)), and the return of the result blocks to the columns' owners.

  The run (Proof/Run.lean, `run_main`) is written once over any float values: every device ends with its arguments
  unchanged, every semaphore at zero, and its result buffer at `outF`. The two frames of the kernel are that run at the two
  instances. Over the extended reals `outF` is the scaled product's silu element by element (Proof/Value.lean), which is
  the unclipped reference everywhere, and the clipped reference wherever the mask says that the clip is idle
  (Proof/RefValue.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_clip_idle
public import proofs.«01_k».proof.Proof.Gen.UnclippedIdeal
public import proofs.«01_k».proof.Proof.Gen.UnclippedIdeal.Run
public import proofs.«01_k».proof.Proof.Run
public import proofs.«01_k».proof.Proof.RefValue
public import Idealize.ShloMosaic.Adequacy
public import Idealize.ShloMosaic.Init

@[expose] public section

noncomputable section

namespace Cert.Proof

open Idealize.ShloMosaic Idealize.SL.Sem Cert.KProof

/-- The program as printed and its idealization have the same body, -/
theorem body_eq : Cert.Kernel.defs₀ (F := Bits) = Cert.KernelIdeal.defs₀ (F := Bits) := by
  unfold Cert.Kernel.defs₀ Cert.KernelIdeal.defs₀
  congr 1
  funext l
  rcases l with ⟨_ | n, h⟩
  · rfl
  · exact absurd h (Nat.not_lt.2 (Nat.le_add_left _ _))

/-- hence the same definitions. -/
theorem defs_eq : Cert.Kernel.defs (F := Bits) = Cert.KernelIdeal.defs (F := Bits) :=
  congrArg (Pipeline.defs (Cert.KernelIdeal.pcfgs (F := Bits))) body_eq

/-- The kernel as printed runs, keeps its arguments and ends with every semaphore at zero. -/
theorem frame_kernel : Cert.quiescent_Kernel := fun m ρ _ => by
  rw [defs_eq]
  exact (θ_run Cert.KernelIdeal.defs _ _).mono
    (fun _ h => ⟨fun c => ⟨(h.1 c).1, (h.1 c).2.1, (h.1 c).2.2.1, (h.1 c).2.2.2.1⟩, h.2⟩) (run_main (F := Bits) m ρ)

/-- So does the kernel over the extended reals. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

/-- The reference runs and keeps its arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- So does the unclipped reference. -/
theorem frame_unclipped : Cert.quiescent_UnclippedIdeal := fun m ρ _ =>
  (θ_run Cert.UnclippedIdeal.defs _ _).mono
    (fun r h => ⟨fun c => (h c).2, sem_eq_zero_of_no_sems (by decide) r.2⟩) (Cert.UnclippedIdeal.Value.run (F := Ideal) m ρ)

/-- Local column `l` of device `c` is column `512 * c + l` of the whole. -/
def col (c : Fin 4) (i : (⟨2, ![4096, 512]⟩ : Shape).Idx) : Fin 2048 :=
  ⟨512 * c.val + (i 1).val, by have h1 : (i 1).val < 512 := (i 1).isLt; omega⟩

/-- Where an index of device `c`'s block lies in the whole array. -/
theorem block_ix (h : Layout.Tiles ⟨2, ![4096, 512]⟩ ⟨2, ![4096, 2048]⟩ 1 4) (c : Fin 4) (i : (⟨2, ![4096, 512]⟩ : Shape).Idx) :
    h.idx c i = ix2 (n0 := 4096) (n1 := 2048) (i 0) (col c i) := by
  funext a; apply Fin.ext
  match a with
  | ⟨0, _⟩ => rfl
  | ⟨1, _⟩ => exact (show c.val * 512 + (i 1).val = 512 * c.val + (i 1).val by omega)

/-- Over the extended reals the kernel's results are the blocks of the unclipped reference's. -/
theorem algebraic_unclipped : Cert.algebraic_KernelIdeal_UnclippedIdeal := by
  intro m ρ m' ρ' _ hagree
  have H : Holds m _ _ _ _ := ⟨fun c => (hagree c).1, fun c => (hagree c).2.1, fun c => (hagree c).2.2.1, fun c => (hagree c).2.2.2⟩
  refine ⟨Cert.UnclippedIdeal.result _ _ _ _, (θ_run Cert.KernelIdeal.defs _ _).mono (fun _ h c => ?_) (run_main (F := Ideal) m ρ),
    (θ_run Cert.UnclippedIdeal.defs _ _).mono (fun _ h => ⟨(h 0).1.trans rfl, (h 0).2⟩) (Cert.UnclippedIdeal.Value.run (F := Ideal) m' ρ')⟩
  obtain ⟨h0, h1, h2, h3, hv⟩ := h.1 c
  refine ⟨hv.trans (funext fun i => ?_), h0, h1, h2, h3⟩
  exact (out_apply H c i (col c i) rfl).trans
    ((congrArg (Cert.UnclippedIdeal.result _ _ _ _) (block_ix _ c i)).trans (Cert.UnclippedIdeal.result_apply _ _ _ _ (i 0) (col c i))).symm

/-- And wherever the clip is idle they are the blocks of the reference's. -/
theorem algebraic_reference : Cert.algebraic_KernelIdeal_ReferenceIdeal_on_clip_idle := by
  intro m ρ m' ρ' _ hagree
  have H : Holds m _ _ _ _ := ⟨fun c => (hagree c).1, fun c => (hagree c).2.1, fun c => (hagree c).2.2.1, fun c => (hagree c).2.2.2⟩
  refine ⟨Cert.ReferenceIdeal.result _ _ _ _, (θ_run Cert.KernelIdeal.defs _ _).mono (fun _ h c => ?_) (run_main (F := Ideal) m ρ),
    (θ_run Cert.ReferenceIdeal.defs _ _).mono (fun _ h => ⟨fun i _ => congrFun ((h 0).1.trans rfl) i, (h 0).2⟩)
      (Cert.ReferenceIdeal.Value.run (F := Ideal) m' ρ')⟩
  obtain ⟨h0, h1, h2, h3, hv⟩ := h.1 c
  refine ⟨fun i hi => (congrFun hv i).trans ?_, h0, h1, h2, h3⟩
  have hb := (Cert.On_clip_idle.fn_iff _ _ _ _ (i 0) (col c i)).1
    ((congrArg (Cert.On_clip_idle.fn (F := Ideal) _ _ _ _) (block_ix _ c i)).symm.trans hi)
  exact (out_apply H c i (col c i) rfl).trans
    ((congrArg (Cert.ReferenceIdeal.result _ _ _ _) (block_ix _ c i)).trans
      (Cert.ReferenceIdeal.result_apply _ _ _ _ (i 0) (col c i) hb.1 hb.2)).symm

/-- The certificate's claim. -/
theorem claim : Cert.Claim :=
  ⟨Cert.Kernel.Gen.facts, Cert.KernelIdeal.Gen.facts, Cert.ReferenceIdeal.Gen.facts, Cert.UnclippedIdeal.Gen.facts,
    Cert.On_clip_idle.Gen.facts, frame_kernel, frame_kernelIdeal, frame_reference, frame_unclipped, trivial,
    algebraic_unclipped, algebraic_reference⟩

end Cert.Proof

end
